-- ==== Defs.lean ====
def Pre_Kernel [hPre_pi_rolled_by_1_Kernel : Cert.Pre_pi_rolled_by_1_Kernel.Facts] (m : (ℓ : Loc Cert.Kernel.nD Cert.Kernel.τ Cert.Kernel.sig) → Buf (Elt Bits) ℓ) : Prop :=
  ∀ c : Dev Cert.Kernel.nD,
    (Cert.Pre_pi_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_rolled_by_2_Kernel [hPre_pi_rolled_by_2_Kernel : Cert.Pre_pi_rolled_by_2_Kernel.Facts] (m : (ℓ : Loc Cert.Kernel.nD Cert.Kernel.τ Cert.Kernel.sig) → Buf (Elt Bits) ℓ) : Prop :=
  ∀ c : Dev Cert.Kernel.nD,
    (Cert.Pre_pi_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_rolled_by_3_Kernel [hPre_pi_rolled_by_3_Kernel : Cert.Pre_pi_rolled_by_3_Kernel.Facts] (m : (ℓ : Loc Cert.Kernel.nD Cert.Kernel.τ Cert.Kernel.sig) → Buf (Elt Bits) ℓ) : Prop :=
  ∀ c : Dev Cert.Kernel.nD,
    (Cert.Pre_pi_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_rolled_by_1_Kernel : Cert.Pre_pi_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_rolled_by_2_Kernel [hPre_pi_rolled_by_2_Kernel : Cert.Pre_pi_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_rolled_by_3_Kernel [hPre_pi_rolled_by_3_Kernel : Cert.Pre_pi_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_rolled_by_1_ReferenceIdeal [hPre_pi_rolled_by_1_ReferenceIdeal : Cert.Pre_pi_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_rolled_by_2_ReferenceIdeal [hPre_pi_rolled_by_2_ReferenceIdeal : Cert.Pre_pi_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_rolled_by_3_ReferenceIdeal [hPre_pi_rolled_by_3_ReferenceIdeal : Cert.Pre_pi_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_rolled_by_1_Kernel : Cert.Pre_pi_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_rolled_by_2_Kernel [hKernel : Cert.Kernel.Facts] [hPre_pi_rolled_by_2_Kernel : Cert.Pre_pi_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_pi_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_rolled_by_3_Kernel [hKernel : Cert.Kernel.Facts] [hPre_pi_rolled_by_3_Kernel : Cert.Pre_pi_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_pi_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_rolled_by_1_Kernel : Cert.Pre_pi_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_rolled_by_2_Kernel [hKernelIdeal : Cert.KernelIdeal.Facts] [hPre_pi_rolled_by_2_Kernel : Cert.Pre_pi_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_rolled_by_3_Kernel [hKernelIdeal : Cert.KernelIdeal.Facts] [hPre_pi_rolled_by_3_Kernel : Cert.Pre_pi_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_1_ReferenceIdeal [hReferenceIdeal : Cert.ReferenceIdeal.Facts] [hPre_pi_rolled_by_1_ReferenceIdeal : Cert.Pre_pi_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_2_ReferenceIdeal [hReferenceIdeal : Cert.ReferenceIdeal.Facts] [hPre_pi_rolled_by_2_ReferenceIdeal : Cert.Pre_pi_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_3_ReferenceIdeal [hReferenceIdeal : Cert.ReferenceIdeal.Facts] [hPre_pi_rolled_by_3_ReferenceIdeal : Cert.Pre_pi_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_rolled_by_1_Kernel : Cert.Pre_pi_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_rolled_by_2_Kernel [hKernelIdeal : Cert.KernelIdeal.Facts] [hReferenceIdeal : Cert.ReferenceIdeal.Facts] [hPre_pi_rolled_by_2_Kernel : Cert.Pre_pi_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_rolled_by_2_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_rolled_by_3_Kernel [hKernelIdeal : Cert.KernelIdeal.Facts] [hReferenceIdeal : Cert.ReferenceIdeal.Facts] [hPre_pi_rolled_by_3_Kernel : Cert.Pre_pi_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_rolled_by_3_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_rolled_by_1_Kernel : Cert.Pre_pi_rolled_by_1_Kernel.Facts) (hPre_pi_rolled_by_2_Kernel : Cert.Pre_pi_rolled_by_2_Kernel.Facts) (hPre_pi_rolled_by_3_Kernel : Cert.Pre_pi_rolled_by_3_Kernel.Facts) (hPre_pi_rolled_by_1_ReferenceIdeal : Cert.Pre_pi_rolled_by_1_ReferenceIdeal.Facts) (hPre_pi_rolled_by_2_ReferenceIdeal : Cert.Pre_pi_rolled_by_2_ReferenceIdeal.Facts) (hPre_pi_rolled_by_3_ReferenceIdeal : Cert.Pre_pi_rolled_by_3_ReferenceIdeal.Facts),
    quiescent_Kernel (hKernel := hKernel) (hPre_pi_rolled_by_1_Kernel := hPre_pi_rolled_by_1_Kernel)
    ∧ quiescent_Kernel_pre_pi_rolled_by_2_Kernel (hKernel := hKernel) (hPre_pi_rolled_by_2_Kernel := hPre_pi_rolled_by_2_Kernel)
    ∧ quiescent_Kernel_pre_pi_rolled_by_3_Kernel (hKernel := hKernel) (hPre_pi_rolled_by_3_Kernel := hPre_pi_rolled_by_3_Kernel)
    ∧ quiescent_KernelIdeal (hKernelIdeal := hKernelIdeal) (hPre_pi_rolled_by_1_Kernel := hPre_pi_rolled_by_1_Kernel)
    ∧ quiescent_KernelIdeal_pre_pi_rolled_by_2_Kernel (hKernelIdeal := hKernelIdeal) (hPre_pi_rolled_by_2_Kernel := hPre_pi_rolled_by_2_Kernel)
    ∧ quiescent_KernelIdeal_pre_pi_rolled_by_3_Kernel (hKernelIdeal := hKernelIdeal) (hPre_pi_rolled_by_3_Kernel := hPre_pi_rolled_by_3_Kernel)
    ∧ quiescent_ReferenceIdeal (hReferenceIdeal := hReferenceIdeal)
    ∧ quiescent_ReferenceIdeal_pre_pi_rolled_by_1_ReferenceIdeal (hReferenceIdeal := hReferenceIdeal) (hPre_pi_rolled_by_1_ReferenceIdeal := hPre_pi_rolled_by_1_ReferenceIdeal)
    ∧ quiescent_ReferenceIdeal_pre_pi_rolled_by_2_ReferenceIdeal (hReferenceIdeal := hReferenceIdeal) (hPre_pi_rolled_by_2_ReferenceIdeal := hPre_pi_rolled_by_2_ReferenceIdeal)
    ∧ quiescent_ReferenceIdeal_pre_pi_rolled_by_3_ReferenceIdeal (hReferenceIdeal := hReferenceIdeal) (hPre_pi_rolled_by_3_ReferenceIdeal := hPre_pi_rolled_by_3_ReferenceIdeal)
    ∧ preserves_Kernel_KernelIdeal
    ∧ algebraic_KernelIdeal_ReferenceIdeal (hKernelIdeal := hKernelIdeal) (hReferenceIdeal := hReferenceIdeal) (hPre_pi_rolled_by_1_Kernel := hPre_pi_rolled_by_1_Kernel)
    ∧ algebraic_KernelIdeal_ReferenceIdeal_pre_pi_rolled_by_2_Kernel (hKernelIdeal := hKernelIdeal) (hReferenceIdeal := hReferenceIdeal) (hPre_pi_rolled_by_2_Kernel := hPre_pi_rolled_by_2_Kernel)
    ∧ algebraic_KernelIdeal_ReferenceIdeal_pre_pi_rolled_by_3_Kernel (hKernelIdeal := hKernelIdeal) (hReferenceIdeal := hReferenceIdeal) (hPre_pi_rolled_by_3_Kernel := hPre_pi_rolled_by_3_Kernel)
-- ==== Pre_pi_rolled_by_1_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_rolled_by_1_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_rolled_by_2_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_rolled_by_2_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_rolled_by_3_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_rolled_by_3_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x4096x2048 : Shape := ⟨3, ![1, 4096, 2048]⟩
abbrev S4 : Shape := ⟨1, ![4]⟩
abbrev S20 : Shape := ⟨1, ![20]⟩
abbrev S16 : Shape := ⟨1, ![16]⟩
abbrev S6 : Shape := ⟨1, ![6]⟩
abbrev S1 : Shape := ⟨1, ![1]⟩
abbrev S_ : Shape := ⟨0, ![]⟩
abbrev S1x64x2048 : Shape := ⟨3, ![1, 64, 2048]⟩
abbrev S64x2048 : Shape := ⟨2, ![64, 2048]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S4, .i32⟩
  | .hbm, ⟨2, _⟩ => ⟨S1x4096x2048, .f32⟩
  | .local _ .smem, ⟨0, _⟩ => ⟨S4, .i32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .smem, ⟨0, _⟩ => true
  | _, _ => false

abbrev semScoped : Fin 2 → Bool
  | ⟨0, _⟩ => false
  | ⟨1, _⟩ => true
  | _ => false

abbrev dmaSemScoped : Fin 129 → Bool
  | ⟨i, _⟩ => dmaSemScopedAt i

abbrev sig : RefSig :=
  (ofTc nBuf bufTy 2 129 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v10 : BitVec 32) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v59 : BitVec 32 := Scalar.muli v2 c16_i32_23
  let v60 : BitVec 32 := Scalar.addi c0_i32_24 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v61 : BitVec 32 := Scalar.muli v5 c4_i32_25
  let v62 : BitVec 32 := Scalar.addi v60 v61
  let c1_i32_26 : BitVec 32 := 1#32
  let v63 : BitVec 32 := Scalar.muli v10 c1_i32_26
  let v64 : BitVec 32 := Scalar.addi v62 v63
  v64.toNat

def k0_dev2 (d0 : Dev nD) (v39 : BitVec 32) (v43 : BitVec 32) (v48 : BitVec 32) (v53 : BitVec 32) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v65 : BitVec 32 := Scalar.muli v2 c16_i32_28
  let v66 : BitVec 32 := Scalar.addi c0_i32_29 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_30 : BitVec 32 := 4#32
  let v67 : BitVec 32 := Scalar.muli v5 c4_i32_30
  let v68 : BitVec 32 := Scalar.addi v66 v67
  let c0_i32_19 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v40 : BitVec 1 := Scalar.cmpi .eq v39 v8
  let v41 : BitVec 32 := Scalar.extui v40
  let v42 : BitVec 32 := Scalar.muli c0_i32_19 v41
  let c1_i32_20 : BitVec 32 := 1#32
  let v44 : BitVec 1 := Scalar.cmpi .eq v43 v8
  let v45 : BitVec 32 := Scalar.extui v44
  let v46 : BitVec 32 := Scalar.muli c1_i32_20 v45
  let v47 : BitVec 32 := Scalar.addi v42 v46
  let c2_i32_21 : BitVec 32 := 2#32
  let v49 : BitVec 1 := Scalar.cmpi .eq v48 v8
  let v50 : BitVec 32 := Scalar.extui v49
  let v51 : BitVec 32 := Scalar.muli c2_i32_21 v50
  let v52 : BitVec 32 := Scalar.addi v47 v51
  let c3_i32 : BitVec 32 := 3#32
  let v54 : BitVec 1 := Scalar.cmpi .eq v53 v8
  let v55 : BitVec 32 := Scalar.extui v54
  let v56 : BitVec 32 := Scalar.muli c3_i32 v55
  let v57 : BitVec 32 := Scalar.addi v52 v56
  let c1_i32_31 : BitVec 32 := 1#32
  let v69 : BitVec 32 := Scalar.muli v57 c1_i32_31
  let v70 : BitVec 32 := Scalar.addi v68 v69
  v70.toNat

def k0_dev3 (d0 : Dev nD) : Nat :=
  let c0_i32_34 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_33 : BitVec 32 := 16#32
  let v71 : BitVec 32 := Scalar.muli v11 c16_i32_33
  let v72 : BitVec 32 := Scalar.addi c0_i32_34 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v73 : BitVec 32 := Scalar.muli v5 c4_i32_35
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v75 : BitVec 32 := Scalar.muli v8 c1_i32_36
  let v76 : BitVec 32 := Scalar.addi v74 v75
  v76.toNat
def k0_dev4 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v77 : BitVec 32 := Scalar.muli v2 c16_i32_38
  let v78 : BitVec 32 := Scalar.addi c0_i32_39 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_40 : BitVec 32 := 4#32
  let v79 : BitVec 32 := Scalar.muli v24 c4_i32_40
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v81 : BitVec 32 := Scalar.muli v8 c1_i32_41
  let v82 : BitVec 32 := Scalar.addi v80 v81
  v82.toNat
def k0_off2 (d0 : Dev nD) (c0_i32_43 : BitVec 32) : Fin 3 → Nat :=
  let c0_i32_45 : BitVec 32 := 0#32
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v25 : BitVec 32 := Scalar.muli c2_i32_10 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v26 : BitVec 32 := Scalar.addi v25 v21
  let c1024_i32 : BitVec 32 := 1024#32
  let v35 : BitVec 32 := Scalar.muli v26 c1024_i32
  let v83 : BitVec 32 := Scalar.addi v35 c0_i32_43
  let c0_i32_52 : BitVec 32 := 0#32
  ![0, v83.toNat, 0]
def k0_dev5 (d0 : Dev nD) (v10 : BitVec 32) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v84 : BitVec 32 := Scalar.muli v2 c16_i32_48
  let v85 : BitVec 32 := Scalar.addi c0_i32_49 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v86 : BitVec 32 := Scalar.muli v5 c4_i32_50
  let v87 : BitVec 32 := Scalar.addi v85 v86
  let c1_i32_51 : BitVec 32 := 1#32
  let v88 : BitVec 32 := Scalar.muli v10 c1_i32_51
  let v89 : BitVec 32 := Scalar.addi v87 v88
  v89.toNat
def k0_dev6 (d0 : Dev nD) (v10 : BitVec 32) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_58 : BitVec 32 := 16#32
  let v99 : BitVec 32 := Scalar.muli v2 c16_i32_58
  let v100 : BitVec 32 := Scalar.addi c0_i32_59 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v101 : BitVec 32 := Scalar.muli v5 c4_i32_60
  let v102 : BitVec 32 := Scalar.addi v100 v101
  let c1_i32_61 : BitVec 32 := 1#32
  let v103 : BitVec 32 := Scalar.muli v10 c1_i32_61
  let v104 : BitVec 32 := Scalar.addi v102 v103
  v104.toNat
def k0_dev7 (d0 : Dev nD) (v10 : BitVec 32) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v114 : BitVec 32 := Scalar.muli v2 c16_i32_68
  let v115 : BitVec 32 := Scalar.addi c0_i32_69 v114
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v116 : BitVec 32 := Scalar.muli v5 c4_i32_70
  let v117 : BitVec 32 := Scalar.addi v115 v116
  let c1_i32_71 : BitVec 32 := 1#32
  let v118 : BitVec 32 := Scalar.muli v10 c1_i32_71
  let v119 : BitVec 32 := Scalar.addi v117 v118
  v119.toNat
def k0_dev8 (d0 : Dev nD) (v10 : BitVec 32) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v129 : BitVec 32 := Scalar.muli v2 c16_i32_78
  let v130 : BitVec 32 := Scalar.addi c0_i32_79 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v131 : BitVec 32 := Scalar.muli v5 c4_i32_80
  let v132 : BitVec 32 := Scalar.addi v130 v131
  let c1_i32_81 : BitVec 32 := 1#32
  let v133 : BitVec 32 := Scalar.muli v10 c1_i32_81
  let v134 : BitVec 32 := Scalar.addi v132 v133
  v134.toNat
def k0_dev9 (d0 : Dev nD) (v10 : BitVec 32) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v144 : BitVec 32 := Scalar.muli v2 c16_i32_88
  let v145 : BitVec 32 := Scalar.addi c0_i32_89 v144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_90 : BitVec 32 := 4#32
  let v146 : BitVec 32 := Scalar.muli v5 c4_i32_90
  let v147 : BitVec 32 := Scalar.addi v145 v146
  let c1_i32_91 : BitVec 32 := 1#32
  let v148 : BitVec 32 := Scalar.muli v10 c1_i32_91
  let v149 : BitVec 32 := Scalar.addi v147 v148
  v149.toNat
def k0_dev10 (d0 : Dev nD) (v10 : BitVec 32) : Nat :=
  let c0_i32_98 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_97 : BitVec 32 := 16#32
  let v159 : BitVec 32 := Scalar.muli v2 c16_i32_97
  let v160 : BitVec 32 := Scalar.addi c0_i32_98 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_99 : BitVec 32 := 4#32
  let v161 : BitVec 32 := Scalar.muli v5 c4_i32_99
  let v162 : BitVec 32 := Scalar.addi v160 v161
  let c1_i32_100 : BitVec 32 := 1#32
  let v163 : BitVec 32 := Scalar.muli v10 c1_i32_100
  let v164 : BitVec 32 := Scalar.addi v162 v163
  v164.toNat
def k0_dev11 (d0 : Dev nD) (v10 : BitVec 32) : Nat :=
  let c0_i32_107 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_106 : BitVec 32 := 16#32
  let v174 : BitVec 32 := Scalar.muli v2 c16_i32_106
  let v175 : BitVec 32 := Scalar.addi c0_i32_107 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_108 : BitVec 32 := 4#32
  let v176 : BitVec 32 := Scalar.muli v5 c4_i32_108
  let v177 : BitVec 32 := Scalar.addi v175 v176
  let c1_i32_109 : BitVec 32 := 1#32
  let v178 : BitVec 32 := Scalar.muli v10 c1_i32_109
  let v179 : BitVec 32 := Scalar.addi v177 v178
  v179.toNat
def k0_dev12 (d0 : Dev nD) (v10 : BitVec 32) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v189 : BitVec 32 := Scalar.muli v2 c16_i32_115
  let v190 : BitVec 32 := Scalar.addi c0_i32_116 v189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v191 : BitVec 32 := Scalar.muli v5 c4_i32_117
  let v192 : BitVec 32 := Scalar.addi v190 v191
  let c1_i32_118 : BitVec 32 := 1#32
  let v193 : BitVec 32 := Scalar.muli v10 c1_i32_118
  let v194 : BitVec 32 := Scalar.addi v192 v193
  v194.toNat
def k0_dev13 (d0 : Dev nD) (v10 : BitVec 32) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v204 : BitVec 32 := Scalar.muli v2 c16_i32_124
  let v205 : BitVec 32 := Scalar.addi c0_i32_125 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_126 : BitVec 32 := 4#32
  let v206 : BitVec 32 := Scalar.muli v5 c4_i32_126
  let v207 : BitVec 32 := Scalar.addi v205 v206
  let c1_i32_127 : BitVec 32 := 1#32
  let v208 : BitVec 32 := Scalar.muli v10 c1_i32_127
  let v209 : BitVec 32 := Scalar.addi v207 v208
  v209.toNat
def k0_dev14 (d0 : Dev nD) (v10 : BitVec 32) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v219 : BitVec 32 := Scalar.muli v2 c16_i32_133
  let v220 : BitVec 32 := Scalar.addi c0_i32_134 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v221 : BitVec 32 := Scalar.muli v5 c4_i32_135
  let v222 : BitVec 32 := Scalar.addi v220 v221
  let c1_i32_136 : BitVec 32 := 1#32
  let v223 : BitVec 32 := Scalar.muli v10 c1_i32_136
  let v224 : BitVec 32 := Scalar.addi v222 v223
  v224.toNat
def k0_dev15 (d0 : Dev nD) (v10 : BitVec 32) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_142 : BitVec 32 := 16#32
  let v234 : BitVec 32 := Scalar.muli v2 c16_i32_142
  let v235 : BitVec 32 := Scalar.addi c0_i32_143 v234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_144 : BitVec 32 := 4#32
  let v236 : BitVec 32 := Scalar.muli v5 c4_i32_144
  let v237 : BitVec 32 := Scalar.addi v235 v236
  let c1_i32_145 : BitVec 32 := 1#32
  let v238 : BitVec 32 := Scalar.muli v10 c1_i32_145
  let v239 : BitVec 32 := Scalar.addi v237 v238
  v239.toNat
def k0_dev16 (d0 : Dev nD) (v10 : BitVec 32) : Nat :=
  let c0_i32_152 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_151 : BitVec 32 := 16#32
  let v249 : BitVec 32 := Scalar.muli v2 c16_i32_151
  let v250 : BitVec 32 := Scalar.addi c0_i32_152 v249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_153 : BitVec 32 := 4#32
  let v251 : BitVec 32 := Scalar.muli v5 c4_i32_153
  let v252 : BitVec 32 := Scalar.addi v250 v251
  let c1_i32_154 : BitVec 32 := 1#32
  let v253 : BitVec 32 := Scalar.muli v10 c1_i32_154
  let v254 : BitVec 32 := Scalar.addi v252 v253
  v254.toNat
def k0_dev17 (d0 : Dev nD) (v10 : BitVec 32) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v264 : BitVec 32 := Scalar.muli v2 c16_i32_160
  let v265 : BitVec 32 := Scalar.addi c0_i32_161 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_162 : BitVec 32 := 4#32
  let v266 : BitVec 32 := Scalar.muli v5 c4_i32_162
  let v267 : BitVec 32 := Scalar.addi v265 v266
  let c1_i32_163 : BitVec 32 := 1#32
  let v268 : BitVec 32 := Scalar.muli v10 c1_i32_163
  let v269 : BitVec 32 := Scalar.addi v267 v268
  v269.toNat
def k0_dev18 (d0 : Dev nD) (v10 : BitVec 32) : Nat :=
  let c0_i32_170 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_169 : BitVec 32 := 16#32
  let v279 : BitVec 32 := Scalar.muli v2 c16_i32_169
  let v280 : BitVec 32 := Scalar.addi c0_i32_170 v279
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v281 : BitVec 32 := Scalar.muli v5 c4_i32_171
  let v282 : BitVec 32 := Scalar.addi v280 v281
  let c1_i32_172 : BitVec 32 := 1#32
  let v283 : BitVec 32 := Scalar.muli v10 c1_i32_172
  let v284 : BitVec 32 := Scalar.addi v282 v283
  v284.toNat
def k0_dev19 (d0 : Dev nD) (v10 : BitVec 32) : Nat :=
  let c0_i32_179 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_178 : BitVec 32 := 16#32
  let v294 : BitVec 32 := Scalar.muli v2 c16_i32_178
  let v295 : BitVec 32 := Scalar.addi c0_i32_179 v294
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_180 : BitVec 32 := 4#32
  let v296 : BitVec 32 := Scalar.muli v5 c4_i32_180
  let v297 : BitVec 32 := Scalar.addi v295 v296
  let c1_i32_181 : BitVec 32 := 1#32
  let v298 : BitVec 32 := Scalar.muli v10 c1_i32_181
  let v299 : BitVec 32 := Scalar.addi v297 v298
  v299.toNat
def k0_dev20 (d0 : Dev nD) (v10 : BitVec 32) : Nat :=
  let c0_i32_188 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_187 : BitVec 32 := 16#32
  let v309 : BitVec 32 := Scalar.muli v2 c16_i32_187
  let v310 : BitVec 32 := Scalar.addi c0_i32_188 v309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_189 : BitVec 32 := 4#32
  let v311 : BitVec 32 := Scalar.muli v5 c4_i32_189
  let v312 : BitVec 32 := Scalar.addi v310 v311
  let c1_i32_190 : BitVec 32 := 1#32
  let v313 : BitVec 32 := Scalar.muli v10 c1_i32_190
  let v314 : BitVec 32 := Scalar.addi v312 v313
  v314.toNat
def k0_off3 (d0 : Dev nD) (c768_i32_193 : BitVec 32) : Fin 3 → Nat :=
  let c0_i32_195 : BitVec 32 := 0#32
  let c2_i32_14 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let v32 : BitVec 32 := Scalar.muli c2_i32_14 v11
  let c1_i32_15 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v33 : BitVec 32 := Scalar.subi c1_i32_15 v21
  let v34 : BitVec 32 := Scalar.addi v32 v33
  let c1024_i32_18 : BitVec 32 := 1024#32
  let v38 : BitVec 32 := Scalar.muli v34 c1024_i32_18
  let v323 : BitVec 32 := Scalar.addi v38 c768_i32_193
  let c0_i32_202 : BitVec 32 := 0#32
  ![0, v323.toNat, 0]
def k0_dev21 (d0 : Dev nD) (v10 : BitVec 32) : Nat :=
  let c0_i32_199 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_198 : BitVec 32 := 16#32
  let v324 : BitVec 32 := Scalar.muli v2 c16_i32_198
  let v325 : BitVec 32 := Scalar.addi c0_i32_199 v324
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_200 : BitVec 32 := 4#32
  let v326 : BitVec 32 := Scalar.muli v5 c4_i32_200
  let v327 : BitVec 32 := Scalar.addi v325 v326
  let c1_i32_201 : BitVec 32 := 1#32
  let v328 : BitVec 32 := Scalar.muli v10 c1_i32_201
  let v329 : BitVec 32 := Scalar.addi v327 v328
  v329.toNat
def k0_dev22 (d0 : Dev nD) (v10 : BitVec 32) : Nat :=
  let c0_i32_209 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_208 : BitVec 32 := 16#32
  let v339 : BitVec 32 := Scalar.muli v2 c16_i32_208
  let v340 : BitVec 32 := Scalar.addi c0_i32_209 v339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_210 : BitVec 32 := 4#32
  let v341 : BitVec 32 := Scalar.muli v5 c4_i32_210
  let v342 : BitVec 32 := Scalar.addi v340 v341
  let c1_i32_211 : BitVec 32 := 1#32
  let v343 : BitVec 32 := Scalar.muli v10 c1_i32_211
  let v344 : BitVec 32 := Scalar.addi v342 v343
  v344.toNat
def k0_dev23 (d0 : Dev nD) (v10 : BitVec 32) : Nat :=
  let c0_i32_219 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_218 : BitVec 32 := 16#32
  let v354 : BitVec 32 := Scalar.muli v2 c16_i32_218
  let v355 : BitVec 32 := Scalar.addi c0_i32_219 v354
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_220 : BitVec 32 := 4#32
  let v356 : BitVec 32 := Scalar.muli v5 c4_i32_220
  let v357 : BitVec 32 := Scalar.addi v355 v356
  let c1_i32_221 : BitVec 32 := 1#32
  let v358 : BitVec 32 := Scalar.muli v10 c1_i32_221
  let v359 : BitVec 32 := Scalar.addi v357 v358
  v359.toNat
def k0_dev24 (d0 : Dev nD) (v10 : BitVec 32) : Nat :=
  let c0_i32_229 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_228 : BitVec 32 := 16#32
  let v369 : BitVec 32 := Scalar.muli v2 c16_i32_228
  let v370 : BitVec 32 := Scalar.addi c0_i32_229 v369
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_230 : BitVec 32 := 4#32
  let v371 : BitVec 32 := Scalar.muli v5 c4_i32_230
  let v372 : BitVec 32 := Scalar.addi v370 v371
  let c1_i32_231 : BitVec 32 := 1#32
  let v373 : BitVec 32 := Scalar.muli v10 c1_i32_231
  let v374 : BitVec 32 := Scalar.addi v372 v373
  v374.toNat
def k0_dev25 (d0 : Dev nD) : Nat :=
  let c0_i32_250 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_249 : BitVec 32 := 16#32
  let v396 : BitVec 32 := Scalar.muli v11 c16_i32_249
  let v397 : BitVec 32 := Scalar.addi c0_i32_250 v396
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v398 : BitVec 32 := Scalar.muli v5 c4_i32_251
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v400 : BitVec 32 := Scalar.muli v8 c1_i32_252
  let v401 : BitVec 32 := Scalar.addi v399 v400
  v401.toNat
def k0_dev26 (d0 : Dev nD) : Nat :=
  let c0_i32_260 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_259 : BitVec 32 := 16#32
  let v410 : BitVec 32 := Scalar.muli v2 c16_i32_259
  let v411 : BitVec 32 := Scalar.addi c0_i32_260 v410
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_261 : BitVec 32 := 4#32
  let v412 : BitVec 32 := Scalar.muli v24 c4_i32_261
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v414 : BitVec 32 := Scalar.muli v8 c1_i32_262
  let v415 : BitVec 32 := Scalar.addi v413 v414
  v415.toNat
def k0_dev27 (d0 : Dev nD) : Nat :=
  let c0_i32_281 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_280 : BitVec 32 := 16#32
  let v437 : BitVec 32 := Scalar.muli v11 c16_i32_280
  let v438 : BitVec 32 := Scalar.addi c0_i32_281 v437
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_282 : BitVec 32 := 4#32
  let v439 : BitVec 32 := Scalar.muli v5 c4_i32_282
  let v440 : BitVec 32 := Scalar.addi v438 v439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v441 : BitVec 32 := Scalar.muli v8 c1_i32_283
  let v442 : BitVec 32 := Scalar.addi v440 v441
  v442.toNat
def k0_dev28 (d0 : Dev nD) : Nat :=
  let c0_i32_291 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_290 : BitVec 32 := 16#32
  let v451 : BitVec 32 := Scalar.muli v2 c16_i32_290
  let v452 : BitVec 32 := Scalar.addi c0_i32_291 v451
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_292 : BitVec 32 := 4#32
  let v453 : BitVec 32 := Scalar.muli v24 c4_i32_292
  let v454 : BitVec 32 := Scalar.addi v452 v453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v455 : BitVec 32 := Scalar.muli v8 c1_i32_293
  let v456 : BitVec 32 := Scalar.addi v454 v455
  v456.toNat
def k0_dev29 (d0 : Dev nD) : Nat :=
  let c0_i32_312 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_311 : BitVec 32 := 16#32
  let v478 : BitVec 32 := Scalar.muli v11 c16_i32_311
  let v479 : BitVec 32 := Scalar.addi c0_i32_312 v478
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_313 : BitVec 32 := 4#32
  let v480 : BitVec 32 := Scalar.muli v5 c4_i32_313
  let v481 : BitVec 32 := Scalar.addi v479 v480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v482 : BitVec 32 := Scalar.muli v8 c1_i32_314
  let v483 : BitVec 32 := Scalar.addi v481 v482
  v483.toNat
def k0_dev30 (d0 : Dev nD) : Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_321 : BitVec 32 := 16#32
  let v492 : BitVec 32 := Scalar.muli v2 c16_i32_321
  let v493 : BitVec 32 := Scalar.addi c0_i32_322 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_323 : BitVec 32 := 4#32
  let v494 : BitVec 32 := Scalar.muli v24 c4_i32_323
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v496 : BitVec 32 := Scalar.muli v8 c1_i32_324
  let v497 : BitVec 32 := Scalar.addi v495 v496
  v497.toNat
def k0_dev31 (d0 : Dev nD) : Nat :=
  let c0_i32_343 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_342 : BitVec 32 := 16#32
  let v519 : BitVec 32 := Scalar.muli v11 c16_i32_342
  let v520 : BitVec 32 := Scalar.addi c0_i32_343 v519
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v521 : BitVec 32 := Scalar.muli v5 c4_i32_344
  let v522 : BitVec 32 := Scalar.addi v520 v521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v523 : BitVec 32 := Scalar.muli v8 c1_i32_345
  let v524 : BitVec 32 := Scalar.addi v522 v523
  v524.toNat
def k0_dev32 (d0 : Dev nD) : Nat :=
  let c0_i32_353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_352 : BitVec 32 := 16#32
  let v533 : BitVec 32 := Scalar.muli v2 c16_i32_352
  let v534 : BitVec 32 := Scalar.addi c0_i32_353 v533
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_354 : BitVec 32 := 4#32
  let v535 : BitVec 32 := Scalar.muli v24 c4_i32_354
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v537 : BitVec 32 := Scalar.muli v8 c1_i32_355
  let v538 : BitVec 32 := Scalar.addi v536 v537
  v538.toNat
def k0_dev33 (d0 : Dev nD) : Nat :=
  let c0_i32_374 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_373 : BitVec 32 := 16#32
  let v560 : BitVec 32 := Scalar.muli v11 c16_i32_373
  let v561 : BitVec 32 := Scalar.addi c0_i32_374 v560
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_375 : BitVec 32 := 4#32
  let v562 : BitVec 32 := Scalar.muli v5 c4_i32_375
  let v563 : BitVec 32 := Scalar.addi v561 v562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_376 : BitVec 32 := 1#32
  let v564 : BitVec 32 := Scalar.muli v8 c1_i32_376
  let v565 : BitVec 32 := Scalar.addi v563 v564
  v565.toNat
def k0_dev34 (d0 : Dev nD) : Nat :=
  let c0_i32_384 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_383 : BitVec 32 := 16#32
  let v574 : BitVec 32 := Scalar.muli v2 c16_i32_383
  let v575 : BitVec 32 := Scalar.addi c0_i32_384 v574
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_385 : BitVec 32 := 4#32
  let v576 : BitVec 32 := Scalar.muli v24 c4_i32_385
  let v577 : BitVec 32 := Scalar.addi v575 v576
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v578 : BitVec 32 := Scalar.muli v8 c1_i32_386
  let v579 : BitVec 32 := Scalar.addi v577 v578
  v579.toNat
def k0_dev35 (d0 : Dev nD) : Nat :=
  let c0_i32_405 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_404 : BitVec 32 := 16#32
  let v601 : BitVec 32 := Scalar.muli v11 c16_i32_404
  let v602 : BitVec 32 := Scalar.addi c0_i32_405 v601
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_406 : BitVec 32 := 4#32
  let v603 : BitVec 32 := Scalar.muli v5 c4_i32_406
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_407 : BitVec 32 := 1#32
  let v605 : BitVec 32 := Scalar.muli v8 c1_i32_407
  let v606 : BitVec 32 := Scalar.addi v604 v605
  v606.toNat
def k0_dev36 (d0 : Dev nD) : Nat :=
  let c0_i32_415 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_414 : BitVec 32 := 16#32
  let v615 : BitVec 32 := Scalar.muli v2 c16_i32_414
  let v616 : BitVec 32 := Scalar.addi c0_i32_415 v615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_416 : BitVec 32 := 4#32
  let v617 : BitVec 32 := Scalar.muli v24 c4_i32_416
  let v618 : BitVec 32 := Scalar.addi v616 v617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v619 : BitVec 32 := Scalar.muli v8 c1_i32_417
  let v620 : BitVec 32 := Scalar.addi v618 v619
  v620.toNat
def k0_dev37 (d0 : Dev nD) : Nat :=
  let c0_i32_436 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_435 : BitVec 32 := 16#32
  let v642 : BitVec 32 := Scalar.muli v11 c16_i32_435
  let v643 : BitVec 32 := Scalar.addi c0_i32_436 v642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_437 : BitVec 32 := 4#32
  let v644 : BitVec 32 := Scalar.muli v5 c4_i32_437
  let v645 : BitVec 32 := Scalar.addi v643 v644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_438 : BitVec 32 := 1#32
  let v646 : BitVec 32 := Scalar.muli v8 c1_i32_438
  let v647 : BitVec 32 := Scalar.addi v645 v646
  v647.toNat
def k0_dev38 (d0 : Dev nD) : Nat :=
  let c0_i32_446 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_445 : BitVec 32 := 16#32
  let v656 : BitVec 32 := Scalar.muli v2 c16_i32_445
  let v657 : BitVec 32 := Scalar.addi c0_i32_446 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_447 : BitVec 32 := 4#32
  let v658 : BitVec 32 := Scalar.muli v24 c4_i32_447
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v660 : BitVec 32 := Scalar.muli v8 c1_i32_448
  let v661 : BitVec 32 := Scalar.addi v659 v660
  v661.toNat
def k0_dev39 (d0 : Dev nD) : Nat :=
  let c0_i32_467 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_466 : BitVec 32 := 16#32
  let v683 : BitVec 32 := Scalar.muli v11 c16_i32_466
  let v684 : BitVec 32 := Scalar.addi c0_i32_467 v683
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_468 : BitVec 32 := 4#32
  let v685 : BitVec 32 := Scalar.muli v5 c4_i32_468
  let v686 : BitVec 32 := Scalar.addi v684 v685
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_469 : BitVec 32 := 1#32
  let v687 : BitVec 32 := Scalar.muli v8 c1_i32_469
  let v688 : BitVec 32 := Scalar.addi v686 v687
  v688.toNat
def k0_dev40 (d0 : Dev nD) : Nat :=
  let c0_i32_477 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_476 : BitVec 32 := 16#32
  let v697 : BitVec 32 := Scalar.muli v2 c16_i32_476
  let v698 : BitVec 32 := Scalar.addi c0_i32_477 v697
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_478 : BitVec 32 := 4#32
  let v699 : BitVec 32 := Scalar.muli v24 c4_i32_478
  let v700 : BitVec 32 := Scalar.addi v698 v699
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v701 : BitVec 32 := Scalar.muli v8 c1_i32_479
  let v702 : BitVec 32 := Scalar.addi v700 v701
  v702.toNat
def k0_dev41 (d0 : Dev nD) : Nat :=
  let c0_i32_498 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_497 : BitVec 32 := 16#32
  let v724 : BitVec 32 := Scalar.muli v11 c16_i32_497
  let v725 : BitVec 32 := Scalar.addi c0_i32_498 v724
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_499 : BitVec 32 := 4#32
  let v726 : BitVec 32 := Scalar.muli v5 c4_i32_499
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_500 : BitVec 32 := 1#32
  let v728 : BitVec 32 := Scalar.muli v8 c1_i32_500
  let v729 : BitVec 32 := Scalar.addi v727 v728
  v729.toNat
def k0_dev42 (d0 : Dev nD) : Nat :=
  let c0_i32_508 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_507 : BitVec 32 := 16#32
  let v738 : BitVec 32 := Scalar.muli v2 c16_i32_507
  let v739 : BitVec 32 := Scalar.addi c0_i32_508 v738
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_509 : BitVec 32 := 4#32
  let v740 : BitVec 32 := Scalar.muli v24 c4_i32_509
  let v741 : BitVec 32 := Scalar.addi v739 v740
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v742 : BitVec 32 := Scalar.muli v8 c1_i32_510
  let v743 : BitVec 32 := Scalar.addi v741 v742
  v743.toNat
def k0_dev43 (d0 : Dev nD) : Nat :=
  let c0_i32_529 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_528 : BitVec 32 := 16#32
  let v765 : BitVec 32 := Scalar.muli v11 c16_i32_528
  let v766 : BitVec 32 := Scalar.addi c0_i32_529 v765
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_530 : BitVec 32 := 4#32
  let v767 : BitVec 32 := Scalar.muli v5 c4_i32_530
  let v768 : BitVec 32 := Scalar.addi v766 v767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v769 : BitVec 32 := Scalar.muli v8 c1_i32_531
  let v770 : BitVec 32 := Scalar.addi v768 v769
  v770.toNat
def k0_dev44 (d0 : Dev nD) : Nat :=
  let c0_i32_539 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_538 : BitVec 32 := 16#32
  let v779 : BitVec 32 := Scalar.muli v2 c16_i32_538
  let v780 : BitVec 32 := Scalar.addi c0_i32_539 v779
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_540 : BitVec 32 := 4#32
  let v781 : BitVec 32 := Scalar.muli v24 c4_i32_540
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_541 : BitVec 32 := 1#32
  let v783 : BitVec 32 := Scalar.muli v8 c1_i32_541
  let v784 : BitVec 32 := Scalar.addi v782 v783
  v784.toNat
def k0_dev45 (d0 : Dev nD) : Nat :=
  let c0_i32_560 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_559 : BitVec 32 := 16#32
  let v806 : BitVec 32 := Scalar.muli v11 c16_i32_559
  let v807 : BitVec 32 := Scalar.addi c0_i32_560 v806
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_561 : BitVec 32 := 4#32
  let v808 : BitVec 32 := Scalar.muli v5 c4_i32_561
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v810 : BitVec 32 := Scalar.muli v8 c1_i32_562
  let v811 : BitVec 32 := Scalar.addi v809 v810
  v811.toNat
def k0_dev46 (d0 : Dev nD) : Nat :=
  let c0_i32_570 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_569 : BitVec 32 := 16#32
  let v820 : BitVec 32 := Scalar.muli v2 c16_i32_569
  let v821 : BitVec 32 := Scalar.addi c0_i32_570 v820
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_571 : BitVec 32 := 4#32
  let v822 : BitVec 32 := Scalar.muli v24 c4_i32_571
  let v823 : BitVec 32 := Scalar.addi v821 v822
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_572 : BitVec 32 := 1#32
  let v824 : BitVec 32 := Scalar.muli v8 c1_i32_572
  let v825 : BitVec 32 := Scalar.addi v823 v824
  v825.toNat
def k0_dev47 (d0 : Dev nD) : Nat :=
  let c0_i32_591 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_590 : BitVec 32 := 16#32
  let v847 : BitVec 32 := Scalar.muli v11 c16_i32_590
  let v848 : BitVec 32 := Scalar.addi c0_i32_591 v847
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_592 : BitVec 32 := 4#32
  let v849 : BitVec 32 := Scalar.muli v5 c4_i32_592
  let v850 : BitVec 32 := Scalar.addi v848 v849
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_593 : BitVec 32 := 1#32
  let v851 : BitVec 32 := Scalar.muli v8 c1_i32_593
  let v852 : BitVec 32 := Scalar.addi v850 v851
  v852.toNat
def k0_dev48 (d0 : Dev nD) : Nat :=
  let c0_i32_601 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_600 : BitVec 32 := 16#32
  let v861 : BitVec 32 := Scalar.muli v2 c16_i32_600
  let v862 : BitVec 32 := Scalar.addi c0_i32_601 v861
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_602 : BitVec 32 := 4#32
  let v863 : BitVec 32 := Scalar.muli v24 c4_i32_602
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v865 : BitVec 32 := Scalar.muli v8 c1_i32_603
  let v866 : BitVec 32 := Scalar.addi v864 v865
  v866.toNat
def k0_dev49 (d0 : Dev nD) : Nat :=
  let c0_i32_622 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_621 : BitVec 32 := 16#32
  let v888 : BitVec 32 := Scalar.muli v11 c16_i32_621
  let v889 : BitVec 32 := Scalar.addi c0_i32_622 v888
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_623 : BitVec 32 := 4#32
  let v890 : BitVec 32 := Scalar.muli v5 c4_i32_623
  let v891 : BitVec 32 := Scalar.addi v889 v890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_624 : BitVec 32 := 1#32
  let v892 : BitVec 32 := Scalar.muli v8 c1_i32_624
  let v893 : BitVec 32 := Scalar.addi v891 v892
  v893.toNat
def k0_dev50 (d0 : Dev nD) : Nat :=
  let c0_i32_632 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_631 : BitVec 32 := 16#32
  let v902 : BitVec 32 := Scalar.muli v2 c16_i32_631
  let v903 : BitVec 32 := Scalar.addi c0_i32_632 v902
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_633 : BitVec 32 := 4#32
  let v904 : BitVec 32 := Scalar.muli v24 c4_i32_633
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_634 : BitVec 32 := 1#32
  let v906 : BitVec 32 := Scalar.muli v8 c1_i32_634
  let v907 : BitVec 32 := Scalar.addi v905 v906
  v907.toNat
def k0_dev51 (d0 : Dev nD) : Nat :=
  let c0_i32_653 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_652 : BitVec 32 := 16#32
  let v929 : BitVec 32 := Scalar.muli v11 c16_i32_652
  let v930 : BitVec 32 := Scalar.addi c0_i32_653 v929
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_654 : BitVec 32 := 4#32
  let v931 : BitVec 32 := Scalar.muli v5 c4_i32_654
  let v932 : BitVec 32 := Scalar.addi v930 v931
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_655 : BitVec 32 := 1#32
  let v933 : BitVec 32 := Scalar.muli v8 c1_i32_655
  let v934 : BitVec 32 := Scalar.addi v932 v933
  v934.toNat
def k0_dev52 (d0 : Dev nD) : Nat :=
  let c0_i32_663 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_662 : BitVec 32 := 16#32
  let v943 : BitVec 32 := Scalar.muli v2 c16_i32_662
  let v944 : BitVec 32 := Scalar.addi c0_i32_663 v943
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_664 : BitVec 32 := 4#32
  let v945 : BitVec 32 := Scalar.muli v24 c4_i32_664
  let v946 : BitVec 32 := Scalar.addi v944 v945
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_665 : BitVec 32 := 1#32
  let v947 : BitVec 32 := Scalar.muli v8 c1_i32_665
  let v948 : BitVec 32 := Scalar.addi v946 v947
  v948.toNat
def k0_dev53 (d0 : Dev nD) : Nat :=
  let c0_i32_684 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_683 : BitVec 32 := 16#32
  let v970 : BitVec 32 := Scalar.muli v11 c16_i32_683
  let v971 : BitVec 32 := Scalar.addi c0_i32_684 v970
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_685 : BitVec 32 := 4#32
  let v972 : BitVec 32 := Scalar.muli v5 c4_i32_685
  let v973 : BitVec 32 := Scalar.addi v971 v972
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_686 : BitVec 32 := 1#32
  let v974 : BitVec 32 := Scalar.muli v8 c1_i32_686
  let v975 : BitVec 32 := Scalar.addi v973 v974
  v975.toNat
def k0_dev54 (d0 : Dev nD) : Nat :=
  let c0_i32_694 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_693 : BitVec 32 := 16#32
  let v984 : BitVec 32 := Scalar.muli v2 c16_i32_693
  let v985 : BitVec 32 := Scalar.addi c0_i32_694 v984
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_695 : BitVec 32 := 4#32
  let v986 : BitVec 32 := Scalar.muli v24 c4_i32_695
  let v987 : BitVec 32 := Scalar.addi v985 v986
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_696 : BitVec 32 := 1#32
  let v988 : BitVec 32 := Scalar.muli v8 c1_i32_696
  let v989 : BitVec 32 := Scalar.addi v987 v988
  v989.toNat
def k0_dev55 (d0 : Dev nD) : Nat :=
  let c0_i32_715 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_714 : BitVec 32 := 16#32
  let v1011 : BitVec 32 := Scalar.muli v11 c16_i32_714
  let v1012 : BitVec 32 := Scalar.addi c0_i32_715 v1011
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_716 : BitVec 32 := 4#32
  let v1013 : BitVec 32 := Scalar.muli v5 c4_i32_716
  let v1014 : BitVec 32 := Scalar.addi v1012 v1013
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v1015 : BitVec 32 := Scalar.muli v8 c1_i32_717
  let v1016 : BitVec 32 := Scalar.addi v1014 v1015
  v1016.toNat
def k0_dev56 (d0 : Dev nD) : Nat :=
  let c0_i32_725 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_724 : BitVec 32 := 16#32
  let v1025 : BitVec 32 := Scalar.muli v2 c16_i32_724
  let v1026 : BitVec 32 := Scalar.addi c0_i32_725 v1025
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_726 : BitVec 32 := 4#32
  let v1027 : BitVec 32 := Scalar.muli v24 c4_i32_726
  let v1028 : BitVec 32 := Scalar.addi v1026 v1027
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_727 : BitVec 32 := 1#32
  let v1029 : BitVec 32 := Scalar.muli v8 c1_i32_727
  let v1030 : BitVec 32 := Scalar.addi v1028 v1029
  v1030.toNat
def k0_off4 (d0 : Dev nD) (c0_i32_740 : BitVec 32) : Fin 3 → Nat :=
  let c0_i32_742 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v30 : BitVec 32 := Scalar.subi c1_i32_13 v21
  let v31 : BitVec 32 := Scalar.addi v29 v30
  let c1024_i32_17 : BitVec 32 := 1024#32
  let v37 : BitVec 32 := Scalar.muli v31 c1024_i32_17
  let v1051 : BitVec 32 := Scalar.addi v37 c0_i32_740
  let c0_i32_749 : BitVec 32 := 0#32
  ![0, v1051.toNat, 0]
def k0_dev57 (d0 : Dev nD) : Nat :=
  let c0_i32_746 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_745 : BitVec 32 := 16#32
  let v1052 : BitVec 32 := Scalar.muli v11 c16_i32_745
  let v1053 : BitVec 32 := Scalar.addi c0_i32_746 v1052
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_747 : BitVec 32 := 4#32
  let v1054 : BitVec 32 := Scalar.muli v5 c4_i32_747
  let v1055 : BitVec 32 := Scalar.addi v1053 v1054
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_748 : BitVec 32 := 1#32
  let v1056 : BitVec 32 := Scalar.muli v8 c1_i32_748
  let v1057 : BitVec 32 := Scalar.addi v1055 v1056
  v1057.toNat
def k0_dev58 (d0 : Dev nD) : Nat :=
  let c0_i32_777 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_776 : BitVec 32 := 16#32
  let v1091 : BitVec 32 := Scalar.muli v11 c16_i32_776
  let v1092 : BitVec 32 := Scalar.addi c0_i32_777 v1091
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_778 : BitVec 32 := 4#32
  let v1093 : BitVec 32 := Scalar.muli v5 c4_i32_778
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_779 : BitVec 32 := 1#32
  let v1095 : BitVec 32 := Scalar.muli v8 c1_i32_779
  let v1096 : BitVec 32 := Scalar.addi v1094 v1095
  v1096.toNat
def k0_dev59 (d0 : Dev nD) : Nat :=
  let c0_i32_808 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_807 : BitVec 32 := 16#32
  let v1130 : BitVec 32 := Scalar.muli v11 c16_i32_807
  let v1131 : BitVec 32 := Scalar.addi c0_i32_808 v1130
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_809 : BitVec 32 := 4#32
  let v1132 : BitVec 32 := Scalar.muli v5 c4_i32_809
  let v1133 : BitVec 32 := Scalar.addi v1131 v1132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v1134 : BitVec 32 := Scalar.muli v8 c1_i32_810
  let v1135 : BitVec 32 := Scalar.addi v1133 v1134
  v1135.toNat
def k0_dev60 (d0 : Dev nD) : Nat :=
  let c0_i32_839 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_838 : BitVec 32 := 16#32
  let v1169 : BitVec 32 := Scalar.muli v11 c16_i32_838
  let v1170 : BitVec 32 := Scalar.addi c0_i32_839 v1169
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_840 : BitVec 32 := 4#32
  let v1171 : BitVec 32 := Scalar.muli v5 c4_i32_840
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_841 : BitVec 32 := 1#32
  let v1173 : BitVec 32 := Scalar.muli v8 c1_i32_841
  let v1174 : BitVec 32 := Scalar.addi v1172 v1173
  v1174.toNat
def k0_dev61 (d0 : Dev nD) : Nat :=
  let c0_i32_870 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_869 : BitVec 32 := 16#32
  let v1208 : BitVec 32 := Scalar.muli v11 c16_i32_869
  let v1209 : BitVec 32 := Scalar.addi c0_i32_870 v1208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_871 : BitVec 32 := 4#32
  let v1210 : BitVec 32 := Scalar.muli v5 c4_i32_871
  let v1211 : BitVec 32 := Scalar.addi v1209 v1210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_872 : BitVec 32 := 1#32
  let v1212 : BitVec 32 := Scalar.muli v8 c1_i32_872
  let v1213 : BitVec 32 := Scalar.addi v1211 v1212
  v1213.toNat
def k0_dev62 (d0 : Dev nD) : Nat :=
  let c0_i32_901 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_900 : BitVec 32 := 16#32
  let v1247 : BitVec 32 := Scalar.muli v11 c16_i32_900
  let v1248 : BitVec 32 := Scalar.addi c0_i32_901 v1247
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_902 : BitVec 32 := 4#32
  let v1249 : BitVec 32 := Scalar.muli v5 c4_i32_902
  let v1250 : BitVec 32 := Scalar.addi v1248 v1249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_903 : BitVec 32 := 1#32
  let v1251 : BitVec 32 := Scalar.muli v8 c1_i32_903
  let v1252 : BitVec 32 := Scalar.addi v1250 v1251
  v1252.toNat
def k0_off5 (d0 : Dev nD) (c384_i32_936 : BitVec 32) : Fin 3 → Nat :=
  let c0_i32_938 : BitVec 32 := 0#32
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let v27 : BitVec 32 := Scalar.muli c2_i32_11 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v28 : BitVec 32 := Scalar.addi v27 v21
  let c1024_i32_16 : BitVec 32 := 1024#32
  let v36 : BitVec 32 := Scalar.muli v28 c1024_i32_16
  let v1297 : BitVec 32 := Scalar.addi v36 c384_i32_936
  let c0_i32_945 : BitVec 32 := 0#32
  ![0, v1297.toNat, 0]
def k0_dev63 (d0 : Dev nD) : Nat :=
  let c0_i32_942 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_941 : BitVec 32 := 16#32
  let v1298 : BitVec 32 := Scalar.muli v2 c16_i32_941
  let v1299 : BitVec 32 := Scalar.addi c0_i32_942 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_943 : BitVec 32 := 4#32
  let v1300 : BitVec 32 := Scalar.muli v24 c4_i32_943
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_944 : BitVec 32 := 1#32
  let v1302 : BitVec 32 := Scalar.muli v8 c1_i32_944
  let v1303 : BitVec 32 := Scalar.addi v1301 v1302
  v1303.toNat
def k0_dev64 (d0 : Dev nD) : Nat :=
  let c0_i32_973 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_972 : BitVec 32 := 16#32
  let v1337 : BitVec 32 := Scalar.muli v2 c16_i32_972
  let v1338 : BitVec 32 := Scalar.addi c0_i32_973 v1337
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_974 : BitVec 32 := 4#32
  let v1339 : BitVec 32 := Scalar.muli v24 c4_i32_974
  let v1340 : BitVec 32 := Scalar.addi v1338 v1339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_975 : BitVec 32 := 1#32
  let v1341 : BitVec 32 := Scalar.muli v8 c1_i32_975
  let v1342 : BitVec 32 := Scalar.addi v1340 v1341
  v1342.toNat
def k0_dev65 (d0 : Dev nD) : Nat :=
  let c0_i32_1004 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1003 : BitVec 32 := 16#32
  let v1376 : BitVec 32 := Scalar.muli v2 c16_i32_1003
  let v1377 : BitVec 32 := Scalar.addi c0_i32_1004 v1376
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_1005 : BitVec 32 := 4#32
  let v1378 : BitVec 32 := Scalar.muli v24 c4_i32_1005
  let v1379 : BitVec 32 := Scalar.addi v1377 v1378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1006 : BitVec 32 := 1#32
  let v1380 : BitVec 32 := Scalar.muli v8 c1_i32_1006
  let v1381 : BitVec 32 := Scalar.addi v1379 v1380
  v1381.toNat
def k0_dev66 (d0 : Dev nD) : Nat :=
  let c0_i32_1035 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1034 : BitVec 32 := 16#32
  let v1415 : BitVec 32 := Scalar.muli v2 c16_i32_1034
  let v1416 : BitVec 32 := Scalar.addi c0_i32_1035 v1415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_1036 : BitVec 32 := 4#32
  let v1417 : BitVec 32 := Scalar.muli v24 c4_i32_1036
  let v1418 : BitVec 32 := Scalar.addi v1416 v1417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1037 : BitVec 32 := 1#32
  let v1419 : BitVec 32 := Scalar.muli v8 c1_i32_1037
  let v1420 : BitVec 32 := Scalar.addi v1418 v1419
  v1420.toNat
def k0_dev67 (d0 : Dev nD) : Nat :=
  let c0_i32_1066 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1065 : BitVec 32 := 16#32
  let v1454 : BitVec 32 := Scalar.muli v2 c16_i32_1065
  let v1455 : BitVec 32 := Scalar.addi c0_i32_1066 v1454
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_1067 : BitVec 32 := 4#32
  let v1456 : BitVec 32 := Scalar.muli v24 c4_i32_1067
  let v1457 : BitVec 32 := Scalar.addi v1455 v1456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1068 : BitVec 32 := 1#32
  let v1458 : BitVec 32 := Scalar.muli v8 c1_i32_1068
  let v1459 : BitVec 32 := Scalar.addi v1457 v1458
  v1459.toNat
def k0_dev68 (d0 : Dev nD) : Nat :=
  let c0_i32_1097 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1096 : BitVec 32 := 16#32
  let v1493 : BitVec 32 := Scalar.muli v2 c16_i32_1096
  let v1494 : BitVec 32 := Scalar.addi c0_i32_1097 v1493
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_1098 : BitVec 32 := 4#32
  let v1495 : BitVec 32 := Scalar.muli v24 c4_i32_1098
  let v1496 : BitVec 32 := Scalar.addi v1494 v1495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1099 : BitVec 32 := 1#32
  let v1497 : BitVec 32 := Scalar.muli v8 c1_i32_1099
  let v1498 : BitVec 32 := Scalar.addi v1496 v1497
  v1498.toNat
def k0_dev69 (d0 : Dev nD) (v10 : BitVec 32) : Nat :=
  let c0_i32_1792_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1791_r0 : BitVec 32 := 16#32
  let v2180_r0 : BitVec 32 := Scalar.muli v2 c16_i32_1791_r0
  let v2181_r0 : BitVec 32 := Scalar.addi c0_i32_1792_r0 v2180_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1793_r0 : BitVec 32 := 4#32
  let v2182_r0 : BitVec 32 := Scalar.muli v5 c4_i32_1793_r0
  let v2183_r0 : BitVec 32 := Scalar.addi v2181_r0 v2182_r0
  let c1_i32_1794_r0 : BitVec 32 := 1#32
  let v2184_r0 : BitVec 32 := Scalar.muli v10 c1_i32_1794_r0
  let v2185_r0 : BitVec 32 := Scalar.addi v2183_r0 v2184_r0
  v2185_r0.toNat

def k0_chk1 (d0 : Dev nD) (v10 : BitVec 32) : Prop :=
  ((k0_dev1 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD) ∧
  ((k0_dev14 d0 v10) < nD) ∧
  ((k0_dev15 d0 v10) < nD) ∧
  ((k0_dev16 d0 v10) < nD) ∧
  ((k0_dev17 d0 v10) < nD) ∧
  ((k0_dev18 d0 v10) < nD) ∧
  ((k0_dev19 d0 v10) < nD) ∧
  ((k0_dev20 d0 v10) < nD) ∧
  ((k0_dev21 d0 v10) < nD) ∧
  ((k0_dev22 d0 v10) < nD) ∧
  ((k0_dev23 d0 v10) < nD) ∧
  ((k0_dev24 d0 v10) < nD) ∧
  ((k0_dev69 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev5_lt : ∀ (d0 : Dev nD) (v10 : BitVec 32) (k0_hw1 : k0_chk1 d0 v10), (k0_dev5 d0 v10) < nD := fun d0 v10 k0_hw1 => k0_hw1.2.1
theorem k0_dev6_lt : ∀ (d0 : Dev nD) (v10 : BitVec 32) (k0_hw1 : k0_chk1 d0 v10), (k0_dev6 d0 v10) < nD := fun d0 v10 k0_hw1 => k0_hw1.2.2.1
theorem k0_dev7_lt : ∀ (d0 : Dev nD) (v10 : BitVec 32) (k0_hw1 : k0_chk1 d0 v10), (k0_dev7 d0 v10) < nD := fun d0 v10 k0_hw1 => k0_hw1.2.2.2.1
theorem k0_dev8_lt : ∀ (d0 : Dev nD) (v10 : BitVec 32) (k0_hw1 : k0_chk1 d0 v10), (k0_dev8 d0 v10) < nD := fun d0 v10 k0_hw1 => k0_hw1.2.2.2.2.1
theorem k0_dev9_lt : ∀ (d0 : Dev nD) (v10 : BitVec 32) (k0_hw1 : k0_chk1 d0 v10), (k0_dev9 d0 v10) < nD := fun d0 v10 k0_hw1 => k0_hw1.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.1
theorem k0_dev11_lt : ∀ (d0 : Dev nD) (v10 : BitVec 32) (k0_hw1 : k0_chk1 d0 v10), (k0_dev11 d0 v10) < nD := fun d0 v10 k0_hw1 => k0_hw1.2.2.2.2.2.2.2.1
theorem k0_dev12_lt : ∀ (d0 : Dev nD) (v10 : BitVec 32) (k0_hw1 : k0_chk1 d0 v10), (k0_dev12 d0 v10) < nD := fun d0 v10 k0_hw1 => k0_hw1.2.2.2.2.2.2.2.2.1
theorem k0_dev13_lt : ∀ (d0 : Dev nD) (v10 : BitVec 32) (k0_hw1 : k0_chk1 d0 v10), (k0_dev13 d0 v10) < nD := fun d0 v10 k0_hw1 => k0_hw1.2.2.2.2.2.2.2.2.2.1
theorem k0_dev14_lt : ∀ (d0 : Dev nD) (v10 : BitVec 32) (k0_hw1 : k0_chk1 d0 v10), (k0_dev14 d0 v10) < nD := fun d0 v10 k0_hw1 => k0_hw1.2.2.2.2.2.2.2.2.2.2.1
theorem k0_dev15_lt : ∀ (d0 : Dev nD) (v10 : BitVec 32) (k0_hw1 : k0_chk1 d0 v10), (k0_dev15 d0 v10) < nD := fun d0 v10 k0_hw1 => k0_hw1.2.2.2.2.2.2.2.2.2.2.2.1
theorem k0_dev16_lt : ∀ (d0 : Dev nD) (v10 : BitVec 32) (k0_hw1 : k0_chk1 d0 v10), (k0_dev16 d0 v10) < nD := fun d0 v10 k0_hw1 => k0_hw1.2.2.2.2.2.2.2.2.2.2.2.2.1
theorem k0_dev17_lt : ∀ (d0 : Dev nD) (v10 : BitVec 32) (k0_hw1 : k0_chk1 d0 v10), (k0_dev17 d0 v10) < nD := fun d0 v10 k0_hw1 => k0_hw1.2.2.2.2.2.2.2.2.2.2.2.2.2.1
theorem k0_dev18_lt : ∀ (d0 : Dev nD) (v10 : BitVec 32) (k0_hw1 : k0_chk1 d0 v10), (k0_dev18 d0 v10) < nD := fun d0 v10 k0_hw1 => k0_hw1.2.2.2.2.2.2.2.2.2.2.2.2.2.2.1
theorem k0_dev19_lt : ∀ (d0 : Dev nD) (v10 : BitVec 32) (k0_hw1 : k0_chk1 d0 v10), (k0_dev19 d0 v10) < nD := fun d0 v10 k0_hw1 => k0_hw1.2.2.2.2.2.2.2.2.2.2.2.2.2.2.2.1
theorem k0_dev20_lt : ∀ (d0 : Dev nD) (v10 : BitVec 32) (k0_hw1 : k0_chk1 d0 v10), (k0_dev20 d0 v10) < nD := fun d0 v10 k0_hw1 => k0_hw1.2.2.2.2.2.2.2.2.2.2.2.2.2.2.2.2.1
theorem k0_dev21_lt : ∀ (d0 : Dev nD) (v10 : BitVec 32) (k0_hw1 : k0_chk1 d0 v10), (k0_dev21 d0 v10) < nD := fun d0 v10 k0_hw1 => k0_hw1.2.2.2.2.2.2.2.2.2.2.2.2.2.2.2.2.2.1
theorem k0_dev22_lt : ∀ (d0 : Dev nD) (v10 : BitVec 32) (k0_hw1 : k0_chk1 d0 v10), (k0_dev22 d0 v10) < nD := fun d0 v10 k0_hw1 => k0_hw1.2.2.2.2.2.2.2.2.2.2.2.2.2.2.2.2.2.2.1
theorem k0_dev23_lt : ∀ (d0 : Dev nD) (v10 : BitVec 32) (k0_hw1 : k0_chk1 d0 v10), (k0_dev23 d0 v10) < nD := fun d0 v10 k0_hw1 => k0_hw1.2.2.2.2.2.2.2.2.2.2.2.2.2.2.2.2.2.2.2.1
theorem k0_dev24_lt : ∀ (d0 : Dev nD) (v10 : BitVec 32) (k0_hw1 : k0_chk1 d0 v10), (k0_dev24 d0 v10) < nD := fun d0 v10 k0_hw1 => k0_hw1.2.2.2.2.2.2.2.2.2.2.2.2.2.2.2.2.2.2.2.2.1
theorem k0_dev69_lt : ∀ (d0 : Dev nD) (v10 : BitVec 32) (k0_hw1 : k0_chk1 d0 v10), (k0_dev69 d0 v10) < nD := fun d0 v10 k0_hw1 => k0_hw1.2.2.2.2.2.2.2.2.2.2.2.2.2.2.2.2.2.2.2.2.2

def k0_dev70 (d0 : Dev nD) (v39 : BitVec 32) (v43 : BitVec 32) (v48 : BitVec 32) (v53 : BitVec 32) : Nat :=
  let c0_i32_1797_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1796_r0 : BitVec 32 := 16#32
  let v2186_r0 : BitVec 32 := Scalar.muli v2 c16_i32_1796_r0
  let v2187_r0 : BitVec 32 := Scalar.addi c0_i32_1797_r0 v2186_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1798_r0 : BitVec 32 := 4#32
  let v2188_r0 : BitVec 32 := Scalar.muli v5 c4_i32_1798_r0
  let v2189_r0 : BitVec 32 := Scalar.addi v2187_r0 v2188_r0
  let c0_i32_19 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v40 : BitVec 1 := Scalar.cmpi .eq v39 v8
  let v41 : BitVec 32 := Scalar.extui v40
  let v42 : BitVec 32 := Scalar.muli c0_i32_19 v41
  let c1_i32_20 : BitVec 32 := 1#32
  let v44 : BitVec 1 := Scalar.cmpi .eq v43 v8
  let v45 : BitVec 32 := Scalar.extui v44
  let v46 : BitVec 32 := Scalar.muli c1_i32_20 v45
  let v47 : BitVec 32 := Scalar.addi v42 v46
  let c2_i32_21 : BitVec 32 := 2#32
  let v49 : BitVec 1 := Scalar.cmpi .eq v48 v8
  let v50 : BitVec 32 := Scalar.extui v49
  let v51 : BitVec 32 := Scalar.muli c2_i32_21 v50
  let v52 : BitVec 32 := Scalar.addi v47 v51
  let c3_i32 : BitVec 32 := 3#32
  let v54 : BitVec 1 := Scalar.cmpi .eq v53 v8
  let v55 : BitVec 32 := Scalar.extui v54
  let v56 : BitVec 32 := Scalar.muli c3_i32 v55
  let v57 : BitVec 32 := Scalar.addi v52 v56
  let c1_i32_1799_r0 : BitVec 32 := 1#32
  let v2190_r0 : BitVec 32 := Scalar.muli v57 c1_i32_1799_r0
  let v2191_r0 : BitVec 32 := Scalar.addi v2189_r0 v2190_r0
  v2191_r0.toNat

def k0_chk2 (d0 : Dev nD) (v39 : BitVec 32) (v43 : BitVec 32) (v48 : BitVec 32) (v53 : BitVec 32) : Prop :=
  ((k0_dev2 d0 v39 v43 v48 v53) < nD) ∧
  ((k0_dev70 d0 v39 v43 v48 v53) < nD)
theorem k0_dev2_lt : ∀ (d0 : Dev nD) (v39 : BitVec 32) (v43 : BitVec 32) (v48 : BitVec 32) (v53 : BitVec 32) (k0_hw2 : k0_chk2 d0 v39 v43 v48 v53), (k0_dev2 d0 v39 v43 v48 v53) < nD := fun d0 v39 v43 v48 v53 k0_hw2 => k0_hw2.1
theorem k0_dev70_lt : ∀ (d0 : Dev nD) (v39 : BitVec 32) (v43 : BitVec 32) (v48 : BitVec 32) (v53 : BitVec 32) (k0_hw2 : k0_chk2 d0 v39 v43 v48 v53), (k0_dev70 d0 v39 v43 v48 v53) < nD := fun d0 v39 v43 v48 v53 k0_hw2 => k0_hw2.2

def k0_dev71 (d0 : Dev nD) : Nat :=
  let c0_i32_1802_r0 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_1801_r0 : BitVec 32 := 16#32
  let v2192_r0 : BitVec 32 := Scalar.muli v11 c16_i32_1801_r0
  let v2193_r0 : BitVec 32 := Scalar.addi c0_i32_1802_r0 v2192_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1803_r0 : BitVec 32 := 4#32
  let v2194_r0 : BitVec 32 := Scalar.muli v5 c4_i32_1803_r0
  let v2195_r0 : BitVec 32 := Scalar.addi v2193_r0 v2194_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1804_r0 : BitVec 32 := 1#32
  let v2196_r0 : BitVec 32 := Scalar.muli v8 c1_i32_1804_r0
  let v2197_r0 : BitVec 32 := Scalar.addi v2195_r0 v2196_r0
  v2197_r0.toNat
def k0_dev72 (d0 : Dev nD) : Nat :=
  let c0_i32_1807_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1806_r0 : BitVec 32 := 16#32
  let v2198_r0 : BitVec 32 := Scalar.muli v2 c16_i32_1806_r0
  let v2199_r0 : BitVec 32 := Scalar.addi c0_i32_1807_r0 v2198_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v22 : BitVec 32 := Scalar.addi v5 c1_i32_8
  let c2_i32_9 : BitVec 32 := 2#32
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v5 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v23 : BitVec 32 := Scalar.muli c2_i32_9 v21
  let v24 : BitVec 32 := Scalar.subi v22 v23
  let c4_i32_1808_r0 : BitVec 32 := 4#32
  let v2200_r0 : BitVec 32 := Scalar.muli v24 c4_i32_1808_r0
  let v2201_r0 : BitVec 32 := Scalar.addi v2199_r0 v2200_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1809_r0 : BitVec 32 := 1#32
  let v2202_r0 : BitVec 32 := Scalar.muli v8 c1_i32_1809_r0
  let v2203_r0 : BitVec 32 := Scalar.addi v2201_r0 v2202_r0
  v2203_r0.toNat
abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x2048 : Shape := ⟨3, ![4, 4096, 2048]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Same.lean ====
/-
# The kernel's text is the ideal program's

The two programs have the same body and so the same definitions: a run of the one is a run of the other.
-/
module

public import proofs.«01_k».proof.Proof.Gen.Kernel
public import proofs.«01_k».proof.Proof.Gen.KernelIdeal

@[expose] public section

noncomputable section

namespace Cert.Permute

open Idealize.ShloMosaic

variable {F : FTy → Type} [FloatOps F]

theorem body_same : Cert.Kernel.cc0_body (F := F) = Cert.KernelIdeal.cc0_body := rfl

theorem defs₀_same : Cert.Kernel.defs₀ (F := F) = Cert.KernelIdeal.defs₀ := by
  unfold Cert.Kernel.defs₀ Cert.KernelIdeal.defs₀
  refine congrArg Defs.onTc (funext fun l => ?_)
  match l with
  | ⟨0, _⟩ =>
    refine funext fun ⟨t, s⟩ => ?_
    exact congrArg (fun B => B (Cert.Kernel.win0_0.stage (s 0)) (Cert.Kernel.Facts₀.hstage0_0 0)
      (Memref.whole Cert.Kernel.main_arg0) (Memref.isWhole_whole _) (Memref.whole Cert.Kernel.main_v1) (Memref.isWhole_whole _)
      Cert.Kernel.cc0_scratch0 Cert.Kernel.cc0_scratch1 Cert.Kernel.cc0_scratch2 Cert.Kernel.cc0_scratch3 Cert.Kernel.cc0_scratch4
      Cert.Kernel.cc0_scratch5 Cert.Kernel.cc0_scratch6 Cert.Kernel.cc0_scratch7 Cert.Kernel.cc0_scratch8 Cert.Kernel.cc0_scratch9
      Cert.Kernel.cc0_scoped0) (body_same (F := F))

theorem defs_same : Cert.Kernel.defs (F := F) = Cert.KernelIdeal.defs := congrArg (Pipeline.defs _) defs₀_same

end Cert.Permute
-- ==== Proof.Steps.lean ====
/-
# The kernel body as a list of steps

The kernel's body is a few loads of the table `pi` followed by a fixed sequence of copies, waits and
signals. This module names the copies (`Tr`, sixty-four to a device), the steps (`Step`), what each step
executes (`act`), and says that the printed body is the loads followed by the list `steps`.
-/
module

public import proofs.«01_k».proof.Proof.Gen.KernelIdeal
public import proofs.«01_k».proof.Proof.Gen.KernelIdeal.Launch
public import proofs.«01_k».proof.Proof.Gen.KernelIdeal.Points

@[expose] public section

noncomputable section

namespace Cert.Permute

open Cert.KernelIdeal Cert.KernelIdeal.Gen
open Idealize.ShloMosaic Idealize.ShloMosaic.TcCoe
open Idealize.SL Idealize.SL.Sem

variable {F : FTy → Type} [FloatOps F]

/-- The copies a device sends, by kind: `z` to the device along `pi` (the sender's own quarter of the rows,
    sixteen chunks), `g` the four chunks of the diagonal quarter sent there too, `xq`/`yq` the received quarter
    passed on to the neighbour along x / along y, `xd`/`yd` chunks received from one neighbour passed on to the other. -/
inductive Tr where
  | z (i : Fin 16) | g (i : Fin 4) | xq (i : Fin 16) | yq (i : Fin 16) | xd (i : Fin 6) | yd (i : Fin 6)
deriving DecidableEq

namespace Tr

/-- All the copies of a device. -/
def list : List Tr := (List.finRange 16).map z ++ (List.finRange 4).map g ++ (List.finRange 16).map xq ++ (List.finRange 16).map yq
  ++ (List.finRange 6).map xd ++ (List.finRange 6).map yd

theorem mem_list (t : Tr) : t ∈ list := by cases t <;> simp [list]

instance : Fintype Tr := ⟨list.toFinset, fun t => List.mem_toFinset.mpr (mem_list t)⟩

/-- The number of a copy's send semaphore. -/
def sendNo : Tr → ℕ
  | z i => 1 + i | g i => 17 + i | xq i => 41 + i | yq i => 73 + i | xd i => 105 + i | yd i => 117 + i
/-- The number of its receive semaphore. -/
def recvNo : Tr → ℕ
  | z i => 21 + i | g i => 37 + i | xq i => 57 + i | yq i => 89 + i | xd i => 111 + i | yd i => 123 + i

theorem sendNo_lt (t : Tr) : t.sendNo < 129 := by cases t <;> simp only [sendNo] <;> omega
theorem recvNo_lt (t : Tr) : t.recvNo < 129 := by cases t <;> simp only [recvNo] <;> omega

def sS (t : Tr) : DmaSem sig := ⟨t.sendNo, t.sendNo_lt⟩
def rS (t : Tr) : DmaSem sig := ⟨t.recvNo, t.recvNo_lt⟩

/-- The first element of the chunk a copy moves, as the sender computes it. -/
def off (d : Dev nD) : Tr → (Fin 3 → ℕ)
  | z i => k0_off2 d (BitVec.ofNat 32 (64 * i.val))
  | g i => k0_off3 d (BitVec.ofNat 32 (768 + 64 * i.val))
  | xq i => k0_off2 d (BitVec.ofNat 32 (64 * i.val))
  | yq i => k0_off2 d (BitVec.ofNat 32 (64 * i.val))
  | xd i => k0_off4 d (BitVec.ofNat 32 (64 * i.val))
  | yd i => k0_off5 d (BitVec.ofNat 32 (384 + 64 * i.val))

theorem off_inb (d : Dev nD) : ∀ (t : Tr) a, t.off d a + S1x64x2048.size a ≤ S1x4096x2048.size a
  | z i => k0_off2_inb d i
  | g i => k0_off3_inb d i
  | xq i => k0_off2_inb d i
  | yq i => k0_off2_inb d i
  | xd i => k0_off4_inb d i
  | yd i => k0_off5_inb d i

end Tr

/-- The words of `pi` the body has loaded, with the facts it checks of them: `a` its own entry, `b` all four. -/
structure Words (d : Dev nD) where
  a : BitVec 32
  b : Fin 4 → BitVec 32
  h1 : k0_chk1 d a
  h2 : k0_chk2 d (b 0) (b 1) (b 2) (b 3)

/-- The device a copy goes to, as the sender computes it. -/
def Tr.dev {d : Dev nD} (w : Words d) : Tr → Dev nD
  | z _ => ⟨k0_dev5 d w.a, k0_dev5_lt d w.a w.h1⟩
  | g _ => ⟨k0_dev5 d w.a, k0_dev5_lt d w.a w.h1⟩
  | xq _ => ⟨k0_dev25 d, k0_dev25_lt d⟩
  | yq _ => ⟨k0_dev26 d, k0_dev26_lt d⟩
  | xd _ => ⟨k0_dev57 d, k0_dev57_lt d⟩
  | yd _ => ⟨k0_dev63 d, k0_dev63_lt d⟩

/-- The four devices a barrier signals. -/
def sigDev {d : Dev nD} (w : Words d) : Fin 4 → Dev nD
  | 0 => ⟨k0_dev1 d w.a, k0_dev1_lt d w.a w.h1⟩
  | 1 => ⟨k0_dev2 d (w.b 0) (w.b 1) (w.b 2) (w.b 3), k0_dev2_lt d _ _ _ _ w.h2⟩
  | 2 => ⟨k0_dev3 d, k0_dev3_lt d⟩
  | 3 => ⟨k0_dev4 d, k0_dev4_lt d⟩

/-- The two buffers in HBM: the operand and the result. -/
abbrev xM : Memref sig .tc .hbm S1x4096x2048 .f32 := Memref.whole main_arg0
abbrev oM : Memref sig .tc .hbm S1x4096x2048 .f32 := Memref.whole main_v1

/-- Sixty-four rows of a buffer. -/
abbrev chunkOf (b : Memref sig .tc .hbm S1x4096x2048 .f32) (o : Fin 3 → ℕ) (h : ∀ a, o a + S1x64x2048.size a ≤ S1x4096x2048.size a) :
    Memref sig .tc .hbm S64x2048 .f32 :=
  (b.slice (Rect.unit (s := S1x4096x2048) o S1x64x2048.size h) (fun _ => rfl)).squeeze S64x2048 squeezes_S1x64x2048_S64x2048

/-- The buffer a copy reads: the operand for those along `pi`, the result for the rest. -/
def Tr.srcBuf : Tr → Memref sig .tc .hbm S1x4096x2048 .f32
  | z _ => xM | g _ => xM | xq _ => oM | yq _ => oM | xd _ => oM | yd _ => oM

/-- The runtime's barrier semaphore and the kernel's own. -/
abbrev bar1 : Sem sig := (SemArray.scalar (sig.barrier 0 rfl) : Sems sig S_).sem
abbrev bar2 : Sem sig := cc0_scoped0.sem

/-- One step of the body after its loads: start a copy, wait for one to arrive, wait for one's source to be free;
    signal and wait at the first barrier, and at the second. -/
inductive Step where
  | snd (t : Tr) | rcv (t : Tr) | ret (t : Tr)
  | sig1 (r : Fin 4) | wait1 | sig2 (r : Fin 4) | wait2
deriving DecidableEq

open Step Tr

abbrev Pg (F : FTy → Type) := Prog (TpuEff nD τ sig (Elt F) Λ₀ .tc) PUnit

/-- What a step executes, and then `k`. -/
def act {d : Dev nD} (w : Words d) (s : Step) (k : PUnit → Pg F) : Pg F :=
  match s with
  | snd t => .op (.enqueueDma (chunkOf (srcBuf t) (t.off d) (t.off_inb d))
      (.remote (Dev.tc (t.dev w)) (chunkOf oM (t.off d) (t.off_inb d)) (.dma t.sS)) (.dma t.rS)
      ((View.wordExact_bits rfl).reshape _ _) ((View.wordExact_bits rfl).reshape _ _) (by cases t <;> exact ⟨⟨rfl, Or.inl rfl⟩, trivial⟩)) k
  | rcv t => .op (.waitDma2 t.rS (chunkOf (srcBuf t) (t.off d) (t.off_inb d)) (chunkOf oM (t.off d) (t.off_inb d))
      ((View.wordExact_bits rfl).reshape _ _) ((View.wordExact_bits rfl).reshape _ _)) k
  | ret t => .op (.waitDma2 t.sS (chunkOf oM (t.off d) (t.off_inb d)) (chunkOf (srcBuf t) (t.off d) (t.off_inb d))
      ((View.wordExact_bits rfl).reshape _ _) ((View.wordExact_bits rfl).reshape _ _)) k
  | sig1 r => .op (.semSignal ((sigDev w r : Dev nD) : Thread nD τ) bar1 (1#32).toInt) k
  | wait1 => .op (.semWait bar1 (4#32).toInt) k
  | sig2 r => .op (.semSignal ((sigDev w r : Dev nD) : Thread nD τ) bar2 (1#32).toInt) k
  | wait2 => .op (.semWait bar2 (4#32).toInt) k

/-- A list of steps in turn, and then `p`. -/
def runL {d : Dev nD} (w : Words d) : List Step → Pg F → Pg F
  | [], p => p
  | s :: l, p => act w s fun _ => runL w l p

theorem runL_append {d : Dev nD} (w : Words d) (l l' : List Step) (p : Pg F) : runL w (l ++ l') p = runL w l (runL w l' p) := by
  induction l with
  | nil => rfl
  | cons s l ih => simp only [List.cons_append, runL, ih]

/-! ## The body's phases -/

def all16 : List (Fin 16) := List.finRange 16
def all6 : List (Fin 6) := List.finRange 6
def all4 : List (Fin 4) := List.finRange 4

/-- Which copy a device starts once it holds chunk `i` of both its neighbours' quarters. -/
def passOn (i : Fin 16) : List Step :=
  if h : i.val < 6 then [rcv (yq i), snd (xd ⟨i, h⟩), rcv (xq i)]
  else if h : i.val < 12 then [rcv (yq i), rcv (xq i), snd (yd ⟨i - 6, by omega⟩)]
  else [rcv (yq i), rcv (xq i)]

def phase1 : List Step := [sig1 0, sig1 1, sig1 2, sig1 3, wait1]
def phase2 : List Step := all16.flatMap (fun i => [snd (z i)]) ++ all4.flatMap (fun i => [snd (g i)])
def phase3 : List Step := all16.flatMap fun i => [rcv (z i), snd (xq i), snd (yq i)]
def phase4 : List Step := all16.flatMap passOn
def phase5 : List Step := all4.flatMap (fun i => [rcv (g i)]) ++ all6.flatMap (fun i => [rcv (xd i), rcv (yd i)])
def phase6 : List Step := all16.flatMap (fun i => [ret (z i)]) ++ all4.flatMap (fun i => [ret (g i)])
  ++ all16.flatMap (fun i => [ret (xq i), ret (yq i)]) ++ all6.flatMap (fun i => [ret (xd i), ret (yd i)])
def phase7 : List Step := [sig2 0, sig2 1, sig2 2, sig2 3, wait2]

def steps : List Step := phase1 ++ phase2 ++ phase3 ++ phase4 ++ phase5 ++ phase6 ++ phase7

/-- The body's loads of the table, and then `p` at what it loaded. -/
def loads (arg0 : Memref sig .tc .smem S4 .i32) (p : (d : Dev nD) → Words d → Pg F) : Pg F :=
  .op .deviceId fun d =>
  (smemLoad arg0 (Rect.unit (s := S4) (k0_off1 d) S1.size (k0_off1_inb d)) numel1_S1 rfl).bind fun (v10 : BitVec 32) =>
  .op (TpuEff.assume (k0_chk1 d v10) (k0_chk1.dec d v10)) fun h1 =>
  (smemLoad arg0 (Rect.unit (s := S4) ![0] S1.size inb_S4_S1_0) numel1_S1 rfl).bind fun (v39 : BitVec 32) =>
  (smemLoad arg0 (Rect.unit (s := S4) ![1] S1.size inb_S4_S1_1) numel1_S1 rfl).bind fun (v43 : BitVec 32) =>
  (smemLoad arg0 (Rect.unit (s := S4) ![2] S1.size inb_S4_S1_2) numel1_S1 rfl).bind fun (v48 : BitVec 32) =>
  (smemLoad arg0 (Rect.unit (s := S4) ![3] S1.size inb_S4_S1_3) numel1_S1 rfl).bind fun (v53 : BitVec 32) =>
  .op (TpuEff.assume (k0_chk2 d v39 v43 v48 v53) (k0_chk2.dec d v39 v43 v48 v53)) fun h2 =>
  p d ⟨v10, ![v39, v43, v48, v53], h1.down, h2.down⟩

set_option maxRecDepth 65536 in
/-- The printed body is its loads followed by the steps. -/
theorem body_eq (t : Fin cfg0.N) :
    bodyAt0 (F := F) t = loads (win0_0.stage (cfg0.slots t 0)) fun _ w => runL w steps (.ret ⟨⟩) := by
  chain_rfl

end Cert.Permute

end
-- ==== Proof.Geom.lean ====
/-
# Devices and pieces

The mesh of thirty-two devices, the neighbours a device's copies go to, and the sixty-four pieces (four
quarters of sixteen chunks of sixty-four rows) each of the two buffers is cut into. A device receives one
piece with each of its sixty-four kinds of copy, and these pieces are all of the result.
-/
module

public import proofs.«01_k».proof.Proof.Steps
public import Idealize.ShloMosaic.Lib.Ring

@[expose] public section

noncomputable section

namespace Cert.Permute

open Cert.KernelIdeal Cert.KernelIdeal.Gen
open Idealize.ShloMosaic Idealize.ShloMosaic.TcCoe
open Idealize.SL Idealize.SL.Sem

variable {F : FTy → Type} [FloatOps F]

/-! ## Devices -/

set_option backward.proofsInPublic true in
/-- A device's place along z. -/
def zOf (d : Dev nD) : Fin 4 := ⟨d.val % 4, Nat.mod_lt _ (by decide)⟩
set_option backward.proofsInPublic true in
/-- The device at place `k` along z in the line of `d`. -/
def setZ (d : Dev nD) (k : Fin 4) : Dev nD := ⟨(d.val / 4 * 4 + k.val) % 32, Nat.mod_lt _ (by decide)⟩
set_option backward.proofsInPublic true in
/-- The neighbour along x. -/
def nbrX (d : Dev nD) : Dev nD := ⟨(d.val + 16) % 32, Nat.mod_lt _ (by decide)⟩
set_option backward.proofsInPublic true in
/-- The neighbour along y: the other of its pair. -/
def nbrY (d : Dev nD) : Dev nD := ⟨(if d.val / 4 % 2 = 0 then d.val + 4 else d.val - 4) % 32, Nat.mod_lt _ (by decide)⟩
set_option backward.proofsInPublic true in
/-- The quarter of the rows a device handles along z. -/
def qd (d : Dev nD) : Fin 4 := ⟨(d.val / 16 * 2 + d.val / 4 % 2) % 4, Nat.mod_lt _ (by decide)⟩
/-- The quarter of the x neighbour, and of the y neighbour, of a device of quarter `q`. -/
def qx : Fin 4 → Fin 4 := ![2, 3, 0, 1]
def qy : Fin 4 → Fin 4 := ![1, 0, 3, 2]

theorem nbrX_nbrX (d : Dev nD) : nbrX (nbrX d) = d := by revert d; decide
theorem nbrY_nbrY (d : Dev nD) : nbrY (nbrY d) = d := by revert d; decide
theorem nbrX_nbrY (d : Dev nD) : nbrX (nbrY d) = nbrY (nbrX d) := by revert d; decide
theorem qd_nbrX (d : Dev nD) : qd (nbrX d) = qx (qd d) := by revert d; decide
theorem qd_nbrY (d : Dev nD) : qd (nbrY d) = qy (qd d) := by revert d; decide
theorem qd_setZ (d : Dev nD) (k : Fin 4) : qd (setZ d k) = qd d := by revert d k; decide
theorem zOf_setZ (d : Dev nD) (k : Fin 4) : zOf (setZ d k) = k := by revert d k; decide
theorem zOf_nbrX (d : Dev nD) : zOf (nbrX d) = zOf d := by revert d; decide
theorem zOf_nbrY (d : Dev nD) : zOf (nbrY d) = zOf d := by revert d; decide
theorem setZ_setZ (d : Dev nD) (k l : Fin 4) : setZ (setZ d k) l = setZ d l := by revert d k l; decide
theorem setZ_zOf (d : Dev nD) : setZ d (zOf d) = d := by revert d; decide
theorem qx_qx (q : Fin 4) : qx (qx q) = q := by revert q; decide
theorem qy_qy (q : Fin 4) : qy (qy q) = q := by revert q; decide
theorem qx_qy (q : Fin 4) : qx (qy q) = qy (qx q) := by revert q; decide

/-- The table `pi` moves place `k` of the line to place `σ k`. -/
def zmap (σ : Equiv.Perm (Fin 4)) (d : Dev nD) : Dev nD := setZ d (σ (zOf d))

theorem zmap_inv (σ : Equiv.Perm (Fin 4)) (d : Dev nD) : zmap σ (zmap σ.symm d) = d := by
  unfold zmap; rw [zOf_setZ, setZ_setZ, Equiv.apply_symm_apply, setZ_zOf]
theorem inv_zmap (σ : Equiv.Perm (Fin 4)) (d : Dev nD) : zmap σ.symm (zmap σ d) = d := by
  unfold zmap; rw [zOf_setZ, setZ_setZ, Equiv.symm_apply_apply, setZ_zOf]
theorem qd_zmap (σ : Equiv.Perm (Fin 4)) (d : Dev nD) : qd (zmap σ d) = qd d := qd_setZ _ _

/-- The four ways a device's signals and copies leave it, and the four they come from. -/
def out4 (σ : Equiv.Perm (Fin 4)) (d : Dev nD) : Fin 4 → Dev nD
  | 0 => zmap σ d | 1 => zmap σ.symm d | 2 => nbrX d | 3 => nbrY d
def in4 (σ : Equiv.Perm (Fin 4)) (d : Dev nD) : Fin 4 → Dev nD
  | 0 => zmap σ.symm d | 1 => zmap σ d | 2 => nbrX d | 3 => nbrY d

theorem out_in (σ : Equiv.Perm (Fin 4)) (d : Dev nD) : ∀ r, out4 σ (in4 σ d r) r = d
  | 0 => zmap_inv σ d | 1 => inv_zmap σ d | 2 => nbrX_nbrX d | 3 => nbrY_nbrY d
theorem in_out (σ : Equiv.Perm (Fin 4)) (d : Dev nD) : ∀ r, in4 σ (out4 σ d r) r = d
  | 0 => inv_zmap σ d | 1 => zmap_inv σ d | 2 => nbrX_nbrX d | 3 => nbrY_nbrY d

/-- Going one of the four ways, as a permutation of the devices. -/
def way (σ : Equiv.Perm (Fin 4)) (r : Fin 4) : Dev nD ≃ Dev nD :=
  ⟨fun d => out4 σ d r, fun d => in4 σ d r, fun d => in_out σ d r, fun d => out_in σ d r⟩

namespace Tr

/-- The signal that answers for a copy's room: the one its target sends back to the sender. -/
def role : Tr → Fin 4
  | z _ => 1 | g _ => 1 | xq _ => 2 | xd _ => 2 | yq _ => 3 | yd _ => 3

/-- Where a copy goes, and where a device's copy of that kind comes from. -/
def tgt (σ : Equiv.Perm (Fin 4)) (d : Dev nD) (t : Tr) : Dev nD := in4 σ d t.role
def src (σ : Equiv.Perm (Fin 4)) (d : Dev nD) (t : Tr) : Dev nD := out4 σ d t.role

theorem tgt_src (σ d) (t : Tr) : t.tgt σ (t.src σ d) = d := in_out σ d _
theorem src_tgt (σ d) (t : Tr) : t.src σ (t.tgt σ d) = d := out_in σ d _

/-- The piece a copy moves, by the sender's quarter, and by the receiver's. -/
def pc (q : Fin 4) : Tr → Fin 4 × Fin 16
  | z i => (q, i) | g i => (qx (qy q), ⟨12 + i.val, by omega⟩) | xq i => (q, i) | yq i => (q, i)
  | xd i => (qy q, ⟨i.val, by omega⟩) | yd i => (qx q, ⟨6 + i.val, by omega⟩)
def rpc (q : Fin 4) : Tr → Fin 4 × Fin 16
  | z i => (q, i) | g i => (qx (qy q), ⟨12 + i.val, by omega⟩) | xq i => (qx q, i) | yq i => (qy q, i)
  | xd i => (qx (qy q), ⟨i.val, by omega⟩) | yd i => (qx (qy q), ⟨6 + i.val, by omega⟩)

theorem pc_src (σ d) (t : Tr) : t.pc (qd (t.src σ d)) = t.rpc (qd d) := by
  cases t <;> simp only [src, role, out4, pc, rpc, qd_zmap, qd_nbrX, qd_nbrY, qx_qx, qy_qy, qx_qy]
theorem rpc_tgt (σ d) (t : Tr) : t.rpc (qd (t.tgt σ d)) = t.pc (qd d) := by rw [← pc_src σ, src_tgt]

theorem rpc_injective (q : Fin 4) : Function.Injective (rpc q) := by
  have h : ∀ q : Fin 4, ∀ t ∈ list, ∀ t' ∈ list, rpc q t = rpc q t' → t = t' := by decide +kernel
  exact fun t t' => h q t (mem_list t) t' (mem_list t')
theorem card_eq : Fintype.card Tr = Fintype.card (Fin 4 × Fin 16) := by decide +kernel

/-- The pieces a device receives are all sixty-four. -/
def rpcE (q : Fin 4) : Tr ≃ Fin 4 × Fin 16 :=
  Equiv.ofBijective (rpc q) ((Fintype.bijective_iff_injective_and_card _).mpr ⟨rpc_injective q, card_eq⟩)

theorem rpcE_apply (q : Fin 4) (t : Tr) : rpcE q t = t.rpc q := rfl

end Tr

/-! ## Pieces -/

/-- Where a piece begins. -/
def poff (p : Fin 4 × Fin 16) : Fin 3 → ℕ := ![0, 1024 * p.1.val + 64 * p.2.val, 0]

theorem poff_inb (p : Fin 4 × Fin 16) (a) : poff p a + S1x64x2048.size a ≤ S1x4096x2048.size a := by
  obtain ⟨⟨a', ha⟩, ⟨b, hb⟩⟩ := p
  fin_cases a
  · exact (by decide : (0 : ℕ) + 1 ≤ 1)
  · show 1024 * a' + 64 * b + 64 ≤ 4096; omega
  · exact (by decide : (0 : ℕ) + 2048 ≤ 2048)

/-- The elements of a piece. -/
def pset (p : Fin 4 × Fin 16) : Finset S1x4096x2048.Idx := (Rect.unit (s := S1x4096x2048) (poff p) S1x64x2048.size (poff_inb p)).set

set_option backward.proofsInPublic true in
/-- The piece of an element. -/
def pieceOf (x : S1x4096x2048.Idx) : Fin 4 × Fin 16 :=
  (⟨(x 1).val / 1024, Nat.div_lt_of_lt_mul (x 1).isLt⟩, ⟨(x 1).val / 64 % 16, Nat.mod_lt _ (by decide)⟩)

theorem mem_pset {x : S1x4096x2048.Idx} {p} : x ∈ pset p ↔ pieceOf x = p := by
  unfold pset
  rw [Rect.mem_set_unit]
  obtain ⟨⟨a, ha⟩, ⟨b, hb⟩⟩ := p
  have h0 : (x 0).val < 1 := (x 0).isLt
  have h1 : (x 1).val < 4096 := (x 1).isLt
  have h2 : (x 2).val < 2048 := (x 2).isLt
  constructor
  · intro h
    have h' : 1024 * a + 64 * b ≤ (x 1).val ∧ (x 1).val < 1024 * a + 64 * b + 64 := h 1
    unfold pieceOf
    refine Prod.ext (Fin.ext ?_) (Fin.ext ?_)
    · show (x 1).val / 1024 = a; omega
    · show (x 1).val / 64 % 16 = b; omega
  · intro h
    have e1 : (x 1).val / 1024 = a := congrArg (fun p : Fin 4 × Fin 16 => p.1.val) h
    have e2 : (x 1).val / 64 % 16 = b := congrArg (fun p : Fin 4 × Fin 16 => p.2.val) h
    intro k
    fin_cases k
    · show 0 ≤ (x 0).val ∧ (x 0).val < 0 + 1; omega
    · show 1024 * a + 64 * b ≤ (x 1).val ∧ (x 1).val < 1024 * a + 64 * b + 64; omega
    · show 0 ≤ (x 2).val ∧ (x 2).val < 0 + 2048; omega

theorem pset_disjoint {p p'} (h : p ≠ p') : Disjoint (pset p) (pset p') :=
  Finset.disjoint_left.mpr fun x hx hx' => h ((mem_pset.mp hx).symm.trans (mem_pset.mp hx'))
theorem pset_cover : Finset.univ.biUnion pset = (Finset.univ : Finset S1x4096x2048.Idx) :=
  Finset.ext fun x => ⟨fun _ => Finset.mem_univ x, fun _ => Finset.mem_biUnion.mpr ⟨pieceOf x, Finset.mem_univ _, mem_pset.mpr rfl⟩⟩

/-! ## What the kernel computes -/

/-- A copy begins where its piece does. -/
theorem off_eq (d : Dev nD) (t : Tr) : t.off d = poff (t.pc (qd d)) := by
  have h2 : ∀ (d : Dev nD) (i : Fin 16), k0_off2 d (BitVec.ofNat 32 (64 * i.val)) = poff (qd d, i) := by decide +kernel
  have h3 : ∀ (d : Dev nD) (i : Fin 4), k0_off3 d (BitVec.ofNat 32 (768 + 64 * i.val)) = poff (qx (qy (qd d)), ⟨12 + i.val, by omega⟩) := by decide +kernel
  have h4 : ∀ (d : Dev nD) (i : Fin 6), k0_off4 d (BitVec.ofNat 32 (64 * i.val)) = poff (qy (qd d), ⟨i.val, by omega⟩) := by decide +kernel
  have h5 : ∀ (d : Dev nD) (i : Fin 6), k0_off5 d (BitVec.ofNat 32 (384 + 64 * i.val)) = poff (qx (qd d), ⟨6 + i.val, by omega⟩) := by decide +kernel
  cases t with
  | z i => exact h2 d i
  | g i => exact h3 d i
  | xq i => exact h2 d i
  | yq i => exact h2 d i
  | xd i => exact h4 d i
  | yd i => exact h5 d i

/-- The words of the table. -/
def piw (σ : Equiv.Perm (Fin 4)) (k : Fin 4) : BitVec 32 := BitVec.ofNat 32 (σ k).val

theorem chk1 (σ) (d : Dev nD) : k0_chk1 d (piw σ (zOf d)) := by
  have h : ∀ (d : Dev nD) (k : Fin 4), k0_chk1 d (BitVec.ofNat 32 k.val) := by
    intro d k
    have : ∀ (d : Dev nD) (k : Fin 4), decide (k0_chk1 d (BitVec.ofNat 32 k.val)) = true := by decide +kernel
    exact of_decide_eq_true (this d k)
  exact h d _

/-- Four distinct places: where among them a place is. -/
def find4 (b0 b1 b2 b3 k : Fin 4) : Fin 4 := if b0 = k then 0 else if b1 = k then 1 else if b2 = k then 2 else 3

theorem find4_perm (σ : Equiv.Perm (Fin 4)) (k : Fin 4) : find4 (σ 0) (σ 1) (σ 2) (σ 3) k = σ.symm k := by
  have : k = σ (σ.symm k) := (Equiv.apply_symm_apply σ k).symm
  generalize σ.symm k = j at *
  subst this
  unfold find4
  simp only [σ.injective.eq_iff]
  fin_cases j <;> rfl

theorem dev2 : ∀ (d : Dev nD) (b0 b1 b2 b3 : Fin 4), b0 ≠ b1 ∧ b0 ≠ b2 ∧ b0 ≠ b3 ∧ b1 ≠ b2 ∧ b1 ≠ b3 ∧ b2 ≠ b3 →
    k0_chk2 d (BitVec.ofNat 32 b0.val) (BitVec.ofNat 32 b1.val) (BitVec.ofNat 32 b2.val) (BitVec.ofNat 32 b3.val)
    ∧ k0_dev2 d (BitVec.ofNat 32 b0.val) (BitVec.ofNat 32 b1.val) (BitVec.ofNat 32 b2.val) (BitVec.ofNat 32 b3.val)
      = (setZ d (find4 b0 b1 b2 b3 (zOf d))).val := by
  decide +kernel

theorem distinct (σ : Equiv.Perm (Fin 4)) : σ 0 ≠ σ 1 ∧ σ 0 ≠ σ 2 ∧ σ 0 ≠ σ 3 ∧ σ 1 ≠ σ 2 ∧ σ 1 ≠ σ 3 ∧ σ 2 ≠ σ 3 := by
  simp only [ne_eq, σ.injective.eq_iff]; decide

theorem chk2 (σ : Equiv.Perm (Fin 4)) (d : Dev nD) : k0_chk2 d (piw σ 0) (piw σ 1) (piw σ 2) (piw σ 3) :=
  (dev2 d _ _ _ _ (distinct σ)).1

/-- The words the body loads when the table is `σ`. -/
structure Words.Good {d : Dev nD} (w : Words d) (σ : Equiv.Perm (Fin 4)) : Prop where
  a : w.a = piw σ (zOf d)
  b : ∀ k, w.b k = piw σ k

/-- A copy's target, as the sender computes it. -/
theorem dev_eq {d : Dev nD} {w : Words d} {σ} (hw : w.Good σ) (t : Tr) : t.dev w = t.tgt σ d := by
  have h5 : ∀ (d : Dev nD) (k : Fin 4), k0_dev5 d (BitVec.ofNat 32 k.val) = (setZ d k).val := by decide +kernel
  have hx : ∀ d : Dev nD, k0_dev25 d = (nbrX d).val := by decide +kernel
  have hy : ∀ d : Dev nD, k0_dev26 d = (nbrY d).val := by decide +kernel
  have hx' : ∀ d : Dev nD, k0_dev57 d = (nbrX d).val := by decide +kernel
  have hy' : ∀ d : Dev nD, k0_dev63 d = (nbrY d).val := by decide +kernel
  refine Fin.ext ?_
  cases t with
  | z i => exact (congrArg (k0_dev5 d) hw.a).trans (h5 d _)
  | g i => exact (congrArg (k0_dev5 d) hw.a).trans (h5 d _)
  | xq i => exact hx d
  | yq i => exact hy d
  | xd i => exact hx' d
  | yd i => exact hy' d

/-- A signal's target. -/
theorem sigDev_eq {d : Dev nD} {w : Words d} {σ} (hw : w.Good σ) (r : Fin 4) : sigDev w r = out4 σ d r := by
  have h1 : ∀ (d : Dev nD) (k : Fin 4), k0_dev1 d (BitVec.ofNat 32 k.val) = (setZ d k).val := by decide +kernel
  have hx : ∀ d : Dev nD, k0_dev3 d = (nbrX d).val := by decide +kernel
  have hy : ∀ d : Dev nD, k0_dev4 d = (nbrY d).val := by decide +kernel
  refine Fin.ext ?_
  match r with
  | 0 => exact (congrArg (k0_dev1 d) hw.a).trans (h1 d _)
  | 1 =>
    show k0_dev2 d (w.b 0) (w.b 1) (w.b 2) (w.b 3) = (setZ d (σ.symm (zOf d))).val
    rw [hw.b, hw.b, hw.b, hw.b, ← find4_perm]
    exact (dev2 d _ _ _ _ (distinct σ)).2
  | 2 => exact hx d
  | 3 => exact hy d

/-! ## Chunks of the buffers -/

theorem set_chunk_x (p) (h) : ((chunkOf xM (poff p) h).view.set : Finset S1x4096x2048.Idx) = pset p :=
  (View.set_reshape ((View.whole main_arg0).slice (Rect.unit (s := S1x4096x2048) (poff p) S1x64x2048.size h)) _).trans
    (View.set_slice_whole main_arg0 _)
theorem set_chunk_o (p) (h) : ((chunkOf oM (poff p) h).view.set : Finset S1x4096x2048.Idx) = pset p :=
  (View.set_reshape ((View.whole main_v1).slice (Rect.unit (s := S1x4096x2048) (poff p) S1x64x2048.size h)) _).trans
    (View.set_slice_whole main_v1 _)

/-- The contents of either buffer. -/
abbrev Cont (F : FTy → Type) : Type := (main_v1 : Ref sig .tc).ty.Contents (Elt F)

/-- A copy of a chunk makes the target's elements the source's. -/
theorem copy_x (o : Fin 3 → ℕ) (h) (fd fs : Cont F) (i : S1x4096x2048.Idx) (hi : i ∈ (chunkOf oM o h).view.set) :
    (chunkOf oM o h).view.write (Elt F) fd ((chunkOf xM o h).view.read (Elt F) fs) Finset.univ i = fs i := by
  obtain ⟨y, -, rfl⟩ := Finset.mem_map.mp hi
  rw [View.write_emb_of_mem _ _ (Finset.mem_univ _)]
  rfl
theorem copy_o (o : Fin 3 → ℕ) (h) (fd fs : Cont F) (i : S1x4096x2048.Idx) (hi : i ∈ (chunkOf oM o h).view.set) :
    (chunkOf oM o h).view.write (Elt F) fd ((chunkOf oM o h).view.read (Elt F) fs) Finset.univ i = fs i := by
  obtain ⟨y, -, rfl⟩ := Finset.mem_map.mp hi
  rw [View.write_emb_of_mem _ _ (Finset.mem_univ _)]
  rfl

end Cert.Permute

end
-- ==== Proof.Sched.lean ====
/-
# The schedule of the semaphores

Every semaphore of the kernel is used for one round. A receive semaphore of device `c` is paid once, by the copy
that arrives there, and hands `c` the piece of its result that the copy wrote; a send semaphore hands the sender
its source back. The first barrier is paid by four devices, each handing over the pieces of its result that the
waiting device may then write; the second barrier hands over nothing. What a device owes is ordered by levels:
barrier one, copies along z, copies of whole quarters to the neighbours, copies of passed-on chunks, barrier two.
-/
module

public import proofs.«01_k».proof.Proof.Geom
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The rounds of the kernel's semaphores, a duty named by a number below four. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (σ : Equiv.Perm (Fin 4)) (m : (ℓ : Loc nD τ sig) → Buf (Elt F) ℓ)

/-- The operand of device `d` at launch. -/
def X (d : Dev nD) : Cont F := m ((d : Thread nD τ).loc main_arg0)

/-- A piece of a device's operand, and of its result, at a share and contents. -/
def xP (c : Dev nD) (p : Fin 4 × Fin 16) (q : PosShare TreeShare) (f : Cont F) : sProp 𝕄 := ((c : Thread nD τ).loc main_arg0) ↦[pset p]{q} f
def oP (c : Dev nD) (p : Fin 4 × Fin 16) (q : PosShare TreeShare) (f : Cont F) : sProp 𝕄 := ((c : Thread nD τ).loc main_v1) ↦[pset p]{q} f

omit [FloatOps F] in
instance xP_storable (c : Dev nD) (p q f) : BI.Storable (upEmb : UEmb _ 𝕄) (xP (F := F) c p q f) := by unfold xP; infer_instance
omit [FloatOps F] in
instance oP_storable (c : Dev nD) (p q f) : BI.Storable (upEmb : UEmb _ 𝕄) (oP (F := F) c p q f) := by unfold oP; infer_instance

namespace Tr

/-- The device whose operand a device's copy of a kind brings. -/
def orgn (d : Dev nD) : Tr → Dev nD
  | z _ => zmap σ.symm d | g _ => zmap σ.symm d | xq _ => zmap σ.symm (nbrX d) | yq _ => zmap σ.symm (nbrY d)
  | xd _ => zmap σ.symm (nbrY (nbrX d)) | yd _ => zmap σ.symm (nbrY (nbrX d))

/-- The share of its source a copy borrows: the two copies of one source take a half each. -/
def shr : Tr → PosShare TreeShare
  | xq _ => fullShare.left | yq _ => fullShare.right | _ => fullShare

end Tr

open Tr

/-- The contents a copy from `d` moves. -/
def bring (d : Dev nD) (t : Tr) : Cont F := X m (t.orgn σ (t.tgt σ d))

/-- What a copy borrows of its sender. -/
def srcP (c : Dev nD) (t : Tr) : sProp 𝕄 :=
  match t with
  | z i => xP c ((z i).pc (qd c)) (z i).shr (bring σ m c (z i))
  | g i => xP c ((g i).pc (qd c)) (g i).shr (bring σ m c (g i))
  | xq i => oP c ((xq i).pc (qd c)) (xq i).shr (bring σ m c (xq i))
  | yq i => oP c ((yq i).pc (qd c)) (yq i).shr (bring σ m c (yq i))
  | xd i => oP c ((xd i).pc (qd c)) (xd i).shr (bring σ m c (xd i))
  | yd i => oP c ((yd i).pc (qd c)) (yd i).shr (bring σ m c (yd i))

/-- The room a copy writes, at its target. -/
def dstP (c : Dev nD) (t : Tr) : sProp 𝕄 := iprop(∃ f, oP (t.tgt σ c) (t.pc (qd c)) fullShare f)

/-- What has arrived with a copy. -/
def gotP (c : Dev nD) (t : Tr) : sProp 𝕄 := oP c (t.rpc (qd c)) fullShare (X m (t.orgn σ c))

/-- What signal `r` of barrier one hands a device: the room of its copies that go back to the signaller. -/
def bar1P (c : Dev nD) (r : Fin 4) : sProp 𝕄 := bigSep (Finset.univ.filter fun t : Tr => t.role = r) (dstP σ c)

omit [FloatOps F] in
instance srcP_storable (c : Dev nD) (t) : BI.Storable (upEmb : UEmb _ 𝕄) (srcP (F := F) σ m c t) := by cases t <;> (unfold srcP; infer_instance)
omit [FloatOps F] in
instance dstP_storable (c : Dev nD) (t) : BI.Storable (upEmb : UEmb _ 𝕄) (dstP (F := F) σ c t) := by unfold dstP; infer_instance
omit [FloatOps F] in
instance gotP_storable (c : Dev nD) (t) : BI.Storable (upEmb : UEmb _ 𝕄) (gotP (F := F) σ m c t) := by unfold gotP; infer_instance
omit [FloatOps F] in
instance bar1P_storable (c : Dev nD) (r) : BI.Storable (upEmb : UEmb _ 𝕄) (bar1P (F := F) σ c r) := by unfold bar1P; infer_instance

/-! ## The semaphores -/

/-- A device's semaphores: the two barriers, a send and a receive semaphore for each copy. -/
abbrev Cel : Type := Bool ⊕ (Tr ⊕ Tr)

abbrev csem : Cel → SemLoc sig
  | .inl false => .reg bar1 | .inl true => .reg bar2 | .inr (.inl t) => .dma t.sS | .inr (.inr t) => .dma t.rS

abbrev kcell (ck : Dev nD × Cel) : GSem nD τ sig := ((ck.1 : Thread nD τ), csem ck.2)
abbrev bCell (c : Dev nD) (b : Bool) : GSem nD τ sig := kcell (c, .inl b)
abbrev sCell (c : Dev nD) (t : Tr) : GSem nD τ sig := kcell (c, .inr (.inl t))
abbrev rCell (c : Dev nD) (t : Tr) : GSem nD τ sig := kcell (c, .inr (.inr t))

/-- Which copy a semaphore is the send, or the receive, semaphore of. -/
def decS (s : DmaSem sig) : Option Tr := Tr.list.find? fun t => t.sendNo == s.val
def decR (s : DmaSem sig) : Option Tr := Tr.list.find? fun t => t.recvNo == s.val

theorem decS_sS (t : Tr) : decS t.sS = some t := by
  have : ∀ t ∈ Tr.list, decS t.sS = some t := by decide +kernel
  exact this t (mem_list t)
theorem decS_rS (t : Tr) : decS t.rS = none := by
  have : ∀ t ∈ Tr.list, decS t.rS = none := by decide +kernel
  exact this t (mem_list t)
theorem decR_rS (t : Tr) : decR t.rS = some t := by
  have : ∀ t ∈ Tr.list, decR t.rS = some t := by decide +kernel
  exact this t (mem_list t)

theorem sS_inj {t t' : Tr} (h : t.sS = t'.sS) : t = t' := Option.some.inj ((decS_sS t).symm.trans ((congrArg decS h).trans (decS_sS t')))
theorem rS_inj {t t' : Tr} (h : t.rS = t'.rS) : t = t' := Option.some.inj ((decR_rS t).symm.trans ((congrArg decR h).trans (decR_rS t')))
theorem sS_ne_rS (t t' : Tr) : t.sS ≠ t'.rS := fun h => by
  have := (decS_sS t).symm.trans ((congrArg decS h).trans (decS_rS t')); cases this
theorem bar1_ne_bar2 : bar1 ≠ bar2 := by decide

theorem csem_injective : Function.Injective csem := by
  rintro (_ | _ | _) (_ | _ | _) h
  · rename_i a b; cases a <;> cases b <;> first | rfl | exact absurd (SemLoc.reg.inj h) bar1_ne_bar2 | exact absurd (SemLoc.reg.inj h).symm bar1_ne_bar2
  · rename_i a b; cases a <;> cases h
  · rename_i a b; cases a <;> cases h
  · rename_i a b; cases b <;> cases h
  · rw [sS_inj (SemLoc.dma.inj h)]
  · exact absurd (SemLoc.dma.inj h) (sS_ne_rS _ _)
  · rename_i a b; cases b <;> cases h
  · exact absurd (SemLoc.dma.inj h).symm (sS_ne_rS _ _)
  · rw [rS_inj (SemLoc.dma.inj h)]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What a copy pays its semaphores. -/
def N : ℕ := (oM : Memref sig .tc .hbm S1x4096x2048 .f32).view.dmaCredit / 64

theorem N_eq (o h) : (chunkOf oM o h).view.dmaCredit = N := rfl
theorem N_eq_x (o h) : (chunkOf xM o h).view.dmaCredit = N := rfl
theorem N_pos : 0 < N := by rw [← N_eq (poff 0) (poff_inb 0)]; exact View.dmaCredit_pos _ (by decide)

/-! ## The schedule -/

/-- What a copy's two semaphores hand over. -/
def payDma (c : Dev nD) : Option Tr → Option Tr → sProp 𝕄
  | some t, _ => srcP σ m c t
  | none, some t => gotP σ m c t
  | none, none => iprop(emp)

/-- What a duty of a device's semaphore hands over. -/
def payAt (c : Dev nD) (s : SemLoc sig) (r : Fin 4) : sProp 𝕄 :=
  match s with
  | .reg s => if s = bar1 then bar1P σ c r else iprop(emp)
  | .dma s => payDma σ m c (decS s) (decR s)

omit [FloatOps F] in
instance payDma_storable (c : Dev nD) (a b) : BI.Storable (upEmb : UEmb _ 𝕄) (payDma (F := F) σ m c a b) := by
  unfold payDma; split <;> infer_instance

omit [FloatOps F] in
instance payAt_storable (c : Dev nD) (s r) : BI.Storable (upEmb : UEmb _ 𝕄) (payAt (F := F) σ m c s r) := by
  unfold payAt
  (repeat' split) <;> infer_instance

/-- One round: a barrier's four duties of one unit, a copy's one duty of what it pays. -/
def Rd : Rounds.Schedule (GSem nD τ sig) (Fin 4) 𝕄 where
  duties g r := if r = 0 then (match g.2 with | .reg _ => Finset.univ | .dma _ => {0}) else ∅
  unitless _ := False
  amount g _ _ := match g.2 with | .reg _ => 1 | .dma _ => N
  payload g _ d := payAt σ m g.1.1 g.2 d
  amount_pos g _ _ _ := by
    rcases g with ⟨_, _ | _⟩
    · exact Nat.one_pos
    · exact N_pos

omit [FloatOps F] in
instance Rd_payload_storable (g : GSem nD τ sig) (r : ℕ) (d : Fin 4) :
    BI.Storable (upEmb : UEmb _ 𝕄) ((Rd (F := F) σ m).payload g r d) := payAt_storable σ m _ _ _

section Sched
variable (c : Dev nD)

omit [FloatOps F] in
theorem duties_reg (s : Sem sig) : (Rd (F := F) σ m).duties ((c : Thread nD τ), .reg s) 0 = Finset.univ := rfl
omit [FloatOps F] in
theorem duties_dma (s : DmaSem sig) : (Rd (F := F) σ m).duties ((c : Thread nD τ), .dma s) 0 = {0} := rfl
omit [FloatOps F] in
theorem duties_later (g : GSem nD τ sig) : ∀ r, 1 ≤ r → (Rd (F := F) σ m).duties g r = ∅ :=
  fun r hr => if_neg (by omega)
omit [FloatOps F] in
theorem expect_reg (s : Sem sig) : (Rd (F := F) σ m).expect ((c : Thread nD τ), .reg s) 0 = 4 := by
  unfold Schedule.expect Schedule.amountOf
  rw [duties_reg]
  rfl
omit [FloatOps F] in
theorem expect_dma (s : DmaSem sig) : (Rd (F := F) σ m).expect ((c : Thread nD τ), .dma s) 0 = N := by
  unfold Schedule.expect Schedule.amountOf; rw [duties_dma, Finset.sum_singleton]; rfl
omit [FloatOps F] in
theorem amount_dma (s : DmaSem sig) (r d) : (Rd (F := F) σ m).amount ((c : Thread nD τ), .dma s) r d = N := rfl
omit [FloatOps F] in
theorem amount_reg (s : Sem sig) (r d) : (Rd (F := F) σ m).amount ((c : Thread nD τ), .reg s) r d = 1 := rfl
omit [FloatOps F] in
theorem pay_bar1 (r n) : (Rd (F := F) σ m).payload (bCell c false) n r = bar1P σ c r := by
  show (if bar1 = bar1 then bar1P σ c r else iprop(emp)) = _
  exact if_pos rfl
omit [FloatOps F] in
theorem pay_bar2 (r n) : (Rd (F := F) σ m).payload (bCell c true) n r = iprop(emp) := by
  show (if bar2 = bar1 then bar1P σ c r else iprop(emp)) = _
  exact if_neg bar1_ne_bar2.symm
omit [FloatOps F] in
theorem pay_s (t : Tr) (n d) : (Rd (F := F) σ m).payload (sCell c t) n d = srcP σ m c t := by
  show payDma σ m c (decS t.sS) (decR t.sS) = _
  rw [decS_sS]; rfl
omit [FloatOps F] in
theorem pay_r (t : Tr) (n d) : (Rd (F := F) σ m).payload (rCell c t) n d = gotP σ m c t := by
  show payDma σ m c (decS t.rS) (decR t.rS) = _
  rw [decS_rS, decR_rS]; rfl

omit [FloatOps F] in
/-- What all copies hold, by the signals that answer for them. -/
theorem by_role (Φ : Tr → sProp 𝕄) : bigSep Finset.univ Φ = bigSep Finset.univ fun r : Fin 4 => bigSep (Finset.univ.filter fun t : Tr => t.role = r) Φ := by
  rw [bigSep_congr (s := Finset.univ) (fun (r : Fin 4) _ => bigSep_filter Finset.univ (fun t : Tr => t.role = r) Φ), bigSep_univ_comm]
  refine bigSep_congr fun t _ => ?_
  have e := bigSep_filter Finset.univ (fun r : Fin 4 => t.role = r) (fun _ => Φ t)
  rw [Finset.filter_eq, if_pos (Finset.mem_univ _), bigSep_singleton] at e
  exact e
omit [FloatOps F] in
/-- What is left of a copy's round is all of it. -/
theorem rest_s (t : Tr) : bigSep ((Rd (F := F) σ m).duties (sCell c t) 0 \ ∅) (fun d => (Rd (F := F) σ m).payload (sCell c t) 0 d) = srcP σ m c t := by
  rw [Finset.sdiff_empty, duties_dma, bigSep_singleton, pay_s]
omit [FloatOps F] in
theorem rest_r (t : Tr) : bigSep ((Rd (F := F) σ m).duties (rCell c t) 0 \ ∅) (fun d => (Rd (F := F) σ m).payload (rCell c t) 0 d) = gotP σ m c t := by
  rw [Finset.sdiff_empty, duties_dma, bigSep_singleton, pay_r]
omit [FloatOps F] in
/-- The four signals of barrier one hand a device the room of all its copies. -/
theorem rest_bar1 : bigSep ((Rd (F := F) σ m).duties (bCell c false) 0 \ ∅) (fun d => (Rd (F := F) σ m).payload (bCell c false) 0 d)
    = bigSep Finset.univ (dstP (F := F) σ c) := by
  rw [Finset.sdiff_empty, duties_reg, bigSep_congr fun d _ => pay_bar1 σ m c d 0]
  exact (by_role (dstP σ c)).symm

end Sched

/-! ## What a device owes, and the levels -/

/-- What a step pays off. -/
def dueOf (d : Dev nD) : Step → CellTallies nD τ sig Unit
  | .snd t => tallyAt (rCell (t.tgt σ d) t) () N
  | .sig1 r => tallyAt (bCell (out4 σ d r) false) () 1
  | .sig2 r => tallyAt (bCell (out4 σ d r) true) () 1
  | _ => 0

/-- What the steps still to come pay off. -/
def dues (d : Dev nD) (l : List Step) : CellTallies nD τ sig Unit := (l.map (dueOf σ d)).sum

theorem dues_cons (d : Dev nD) (s : Step) (l : List Step) : dues σ d (s :: l) = dues σ d l + dueOf σ d s := by
  unfold dues; rw [List.map_cons, List.sum_cons, add_comm]

/-- A copy's level. -/
def _root_.Cert.Permute.Tr.lvl : Tr → ℕ
  | z _ => 2 | g _ => 2 | xq _ => 3 | yq _ => 3 | xd _ => 4 | yd _ => 4

def L (g : GSem nD τ sig) : Finset Unit := if g.1.2 = .tc then {()} else ∅
def lv (g : GSem nD τ sig) (_ : Unit) : ℕ :=
  match g.2 with
  | .reg s => if s = bar1 then 1 else 5
  | .dma s => match decS s with
    | some _ => 0
    | none => match decR s with
      | some t => t.lvl
      | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar1 (c : Dev nD) : lv (bCell c false) () = 1 := by show (if bar1 = bar1 then 1 else 5) = 1; exact if_pos rfl
theorem lv_bar2 (c : Dev nD) : lv (bCell c true) () = 5 := by show (if bar2 = bar1 then 1 else 5) = 5; exact if_neg bar1_ne_bar2.symm
theorem lv_s (c : Dev nD) (t : Tr) : lv (sCell c t) () = 0 := by show lv ((c : Thread nD τ), .dma t.sS) () = 0; simp only [lv, decS_sS]
theorem lv_r (c : Dev nD) (t : Tr) : lv (rCell c t) () = t.lvl := by show lv ((c : Thread nD τ), .dma t.rS) () = _; simp only [lv, decS_rS, decR_rS]

/-- All of a debt lies above a level. -/
def Above (b : ℕ) (O : CellTallies nD τ sig Unit) : Prop := ∀ g u, 0 < O g u → u ∈ L g ∧ b < lv g u

theorem above_zero (b : ℕ) : Above b 0 := fun g u h => absurd h (Nat.lt_irrefl 0)
theorem above_add {b : ℕ} {O O'} (h : Above b O) (h' : Above b O') : Above b (O + O') := fun g u hu => by
  rw [Pi.add_apply, Finsupp.add_apply] at hu
  rcases Nat.eq_zero_or_pos (O g u) with h0 | h0
  · exact h' g u (by omega)
  · exact h g u h0
theorem above_tally {b n : ℕ} {c : Dev nD} {sm : SemLoc sig} (h : b < lv ((c : Thread nD τ), sm) ()) :
    Above b (tallyAt ((c : Thread nD τ), sm) () n) := fun g u hu => by
  rw [tallyAt_apply] at hu
  by_cases hg : g = ((c : Thread nD τ), sm) ∧ u = ()
  · obtain ⟨rfl, rfl⟩ := hg
    exact ⟨by rw [L_tc]; exact Finset.mem_singleton_self _, h⟩
  · rw [if_neg hg] at hu; exact absurd hu (Nat.lt_irrefl 0)

/-- What a step pays lies above a level. -/
def stepAbove (b : ℕ) : Step → Bool
  | .snd t => b < t.lvl
  | .sig1 _ => b < 1
  | .sig2 _ => b < 5
  | _ => true

theorem above_step {b : ℕ} {d : Dev nD} : ∀ {s : Step}, stepAbove b s = true → Above b (dueOf σ d s)
  | .snd t, h => above_tally (by rw [lv_r]; exact of_decide_eq_true h)
  | .sig1 r, h => above_tally (by rw [lv_bar1]; exact of_decide_eq_true h)
  | .sig2 r, h => above_tally (by rw [lv_bar2]; exact of_decide_eq_true h)
  | .rcv _, _ => above_zero b | .ret _, _ => above_zero b | .wait1, _ => above_zero b | .wait2, _ => above_zero b

theorem above_dues {b : ℕ} {d : Dev nD} : ∀ {l : List Step}, l.all (stepAbove b) = true → Above b (dues σ d l)
  | [], _ => above_zero b
  | s :: l, h => by
    rw [List.all_cons, Bool.and_eq_true] at h
    rw [dues_cons]
    exact above_add (above_dues h.2) (above_step σ h.1)

omit [FloatOps F] in
/-- A device may wait at a level below all it owes. -/
theorem mayWait {c : Dev nD} {sm : SemLoc sig} {b : ℕ} {O} (hsm : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hsm) (fun g u hg => (hO g u hg).2)

end Cert.Permute

end
-- ==== Proof.Exec.lean ====
/-
# Running the copies

What a device holds while its copies run is a list of tokens (`Tok`), and a step of the body consumes some and
produces others (`exec`, a function that is evaluated). `run_steps` says once, for any list of steps, that the
body runs from what the first list of tokens stands for to what the last one does.
-/
module

public import proofs.«01_k».proof.Proof.Sched

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (σ : Equiv.Perm (Fin 4)) (m : (ℓ : Loc nD τ sig) → Buf (Elt F) ℓ)

/-! ## Tokens -/

/-- What a device holds of a copy: everything but the source (`rdy`), the source (`src`), the right to wait for
    the source (`crd`) and for the copy that arrives (`awt`), the arrived piece (`got`), the two semaphores back at zero. -/
inductive Tok where
  | rdy (t : Tr) | src (t : Tr) | crd (t : Tr) | awt (t : Tr) | got (t : Tr) | zS (t : Tr) | zR (t : Tr)

open Tok

namespace Tok

def code : Tok → ℕ
  | rdy t => 7 * t.sendNo | src t => 7 * t.sendNo + 1 | crd t => 7 * t.sendNo + 2 | awt t => 7 * t.sendNo + 3
  | got t => 7 * t.sendNo + 4 | zS t => 7 * t.sendNo + 5 | zR t => 7 * t.sendNo + 6

theorem sendNo_inj {t t' : Tr} (h : t.sendNo = t'.sendNo) : t = t' := sS_inj (Fin.ext h)

theorem code_inj {a b : Tok} (h : a.code = b.code) : a = b := by
  cases a <;> cases b <;> simp only [code] at h <;> first | (exact absurd h (by omega)) | (exact congrArg _ (sendNo_inj (by omega)))

instance : DecidableEq Tok := fun a b => decidable_of_iff (a.code = b.code) ⟨code_inj, fun h => h ▸ rfl⟩

end Tok

/-- What becomes of an arrived piece: the source of the copies that pass it on, or kept. -/
def lands : Tr → List Tok
  | .z i => [src (.xq i), src (.yq i)]
  | .yq i => if h : i.val < 6 then [src (.xd ⟨i.val, h⟩)] else [got (.yq i)]
  | .xq i => if h : 6 ≤ i.val ∧ i.val < 12 then [src (.yd ⟨i.val - 6, by omega⟩)] else [got (.xq i)]
  | t => [got t]

/-- The tokens after a list of steps, `after` still to come; `none` if a step lacks a token or waits below a debt. -/
def exec (after : List Step) : List Step → List Tok → Option (List Tok)
  | [], S => some S
  | .snd t :: l, S => if rdy t ∈ S ∧ src t ∈ S.erase (rdy t) then exec after l (crd t :: (S.erase (rdy t)).erase (src t)) else none
  | .rcv t :: l, S => if awt t ∈ S ∧ (l ++ after).all (stepAbove t.lvl) = true then exec after l (zR t :: (lands t ++ S.erase (awt t))) else none
  | .ret t :: l, S => if crd t ∈ S ∧ (l ++ after).all (stepAbove 0) = true then exec after l (zS t :: src t :: S.erase (crd t)) else none
  | _ :: _, _ => none

/-- What a token stands for at device `c`. -/
def tokP (c : Dev nD) : Tok → sProp 𝕄
  | rdy t => iprop(dstP σ c t ∗ dutyTok ER (sCell c t) 0 0 ∗ dutyTok ER (rCell (t.tgt σ c) t) 0 0 ∗ atPos ER (sCell c t) 0 ∅ 0)
  | src t => srcP σ m c t
  | crd t => iprop(cred (tallyAt (sCell c t) () N) ∗ atPos ER (sCell c t) 0 ∅ 0)
  | awt t => iprop(cred (tallyAt (rCell c t) () N) ∗ atPos ER (rCell c t) 0 ∅ 0)
  | got t => gotP σ m c t
  | zS t => semVal (sCell c t) 0
  | zR t => semVal (rCell c t) 0

abbrev held (c : Dev nD) (S : List Tok) : sProp 𝕄 := bigSepM (S : Multiset Tok) (tokP σ m c)

omit [FloatOps F] in
theorem held_cons (c : Dev nD) (a : Tok) (S : List Tok) : held (F := F) σ m c (a :: S) = iprop(tokP σ m c a ∗ held σ m c S) :=
  bigSepM_cons a (S : Multiset Tok) (tokP σ m c)

omit [FloatOps F] in
theorem held_append (c : Dev nD) (S S' : List Tok) : held (F := F) σ m c (S ++ S') = iprop(held σ m c S ∗ held σ m c S') := by
  unfold held; rw [← Multiset.coe_add]; exact bigSepM_add _ _ _

omit [FloatOps F] in
theorem held_perm (c : Dev nD) {S S' : List Tok} (h : S.Perm S') : held (F := F) σ m c S = held σ m c S' := by
  unfold held; rw [Multiset.coe_eq_coe.mpr h]

omit [FloatOps F] in
theorem held_take (c : Dev nD) {a : Tok} {S : List Tok} (h : a ∈ S) : held (F := F) σ m c S = iprop(tokP σ m c a ∗ held σ m c (S.erase a)) := by
  rw [held_perm σ m c (List.perm_cons_erase h), held_cons]

omit [FloatOps F] in
/-- An arrived piece is what becomes of it. -/
theorem held_lands (c : Dev nD) (t : Tr) : held (F := F) σ m c (lands t) = gotP σ m c t := by
  have one (a : Tok) : held (F := F) σ m c [a] = tokP σ m c a := bigSepM_singleton a _
  cases t with
  | z i =>
    show held σ m c [src (.xq i), src (.yq i)] = _
    rw [held_cons, one]
    have e1 : bring σ m c (.xq i) = X m (Tr.orgn σ c (.z i)) := by
      unfold bring Tr.orgn Tr.tgt in4 Tr.role; simp only [nbrX_nbrX]
    have e2 : bring σ m c (.yq i) = X m (Tr.orgn σ c (.z i)) := by
      unfold bring Tr.orgn Tr.tgt in4 Tr.role; simp only [nbrY_nbrY]
    simp only [tokP, srcP, gotP, e1, e2]
    unfold oP
    have e := pointsTo_share (Ix := Unit) (Name := ℕ) (U := UU) (Lvl := ℕ) (Val := Elt F) (ℓ := (c : Thread nD τ).loc main_v1) (I := pset ((Tr.z i).rpc (qd c)))
      (f := X m (Tr.orgn σ c (.z i))) (PosShare.mem_left_op_right fullShare)
    exact (equiv_iff.mp ⟨e.1, e.2⟩).symm
  | g i => exact one _
  | xq i =>
    by_cases h : 6 ≤ i.val ∧ i.val < 12
    · simp only [lands, dif_pos h]
      rw [one]
      have e1 : bring σ m c (.yd ⟨i.val - 6, by omega⟩) = X m (Tr.orgn σ c (.xq i)) := by
        unfold bring Tr.orgn Tr.tgt in4 Tr.role; simp only [nbrX_nbrY, nbrY_nbrY]
      have e2 : (⟨6 + (i.val - 6), by omega⟩ : Fin 16) = i := Fin.ext (by show 6 + (i.val - 6) = i.val; omega)
      simp only [tokP, srcP, gotP, e1, Tr.pc, Tr.rpc, e2, Tr.shr]
    · simp only [lands, dif_neg h]; exact one _
  | yq i =>
    by_cases h : i.val < 6
    · simp only [lands, dif_pos h]
      rw [one]
      have e1 : bring σ m c (.xd ⟨i.val, h⟩) = X m (Tr.orgn σ c (.yq i)) := by
        unfold bring Tr.orgn Tr.tgt in4 Tr.role; simp only [nbrX_nbrX]
      simp only [tokP, srcP, gotP, e1, Tr.pc, Tr.rpc, Tr.shr]
    · simp only [lands, dif_neg h]; exact one _
  | xd i => exact one _
  | yd i => exact one _

/-! ## What the launch hands every device -/

/-- The invariants of all semaphores, and that each is at its first round. -/
def records (K : Dev nD × Cel → ℕ) : sProp 𝕄 :=
  iprop((bigSep Finset.univ fun ck : Dev nD × Cel => cellInv ER (Rd σ m) (K ck) (kcell ck))
    ∗ (bigSep Finset.univ fun ck : Dev nD × Cel => reached ER (kcell ck) 0) ∗ levAts L lv)

omit [FloatOps F] in
instance records_persistent (K : Dev nD × Cel → ℕ) : BI.Persistent (records (F := F) σ m K) := by unfold records; infer_instance

omit [FloatOps F] in
theorem records_inv (K : Dev nD × Cel → ℕ) (c : Dev nD) (k : Cel) : records (F := F) σ m K ⊢ cellInv ER (Rd σ m) (K (c, k)) (kcell (c, k)) := by
  unfold records
  exact sep_elim_left.trans (bigSep_elim (Φ := fun ck : Dev nD × Cel => cellInv ER (Rd σ m) (K ck) (kcell ck)) (Finset.mem_univ (c, k)))
omit [FloatOps F] in
theorem records_reached (K : Dev nD × Cel → ℕ) (c : Dev nD) (k : Cel) : records (F := F) σ m K ⊢ reached ER (kcell (c, k)) 0 := by
  unfold records
  exact sep_elim_right.trans (sep_elim_left.trans (bigSep_elim (Φ := fun ck : Dev nD × Cel => reached ER (kcell ck) 0) (Finset.mem_univ (c, k))))
omit [FloatOps F] in
theorem records_lev (K : Dev nD × Cel → ℕ) : records (F := F) σ m K ⊢ levAts L lv := by unfold records; iintro ⟨-, -, H⟩; iexact H

/-- What a device owes, whatever its waits so far. -/
def owesX (c : Dev nD) (O : CellTallies nD τ sig Unit) : sProp 𝕄 := iprop(∃ W, owes (c : Thread nD τ) O W)

/-- The body run to a postcondition. -/
abbrev wpB (c : Dev nD) (p : Pg F) (Q : PUnit.{1} → sProp 𝕄) : sProp 𝕄 :=
  wp frame (wpE (defs₀ (F := F)) 𝒱₀ (c : Thread nD τ) none) Set.univ p Q

/-! ## The steps -/

variable (K : Dev nD × Cel → ℕ)

omit [FloatOps F] in
theorem chunk_o (c : Dev nD) (p h q f) : ((chunkOf oM (poff p) h).view.loc (c : Thread nD τ) ↦[(chunkOf oM (poff p) h).view.set]{q} f : sProp 𝕄) = oP c p q f := by
  unfold oP
  exact congrArg (fun S : Finset S1x4096x2048.Idx => (((c : Thread nD τ).loc main_v1) ↦[S]{q} f : sProp 𝕄)) (set_chunk_o p h)
omit [FloatOps F] in
theorem chunk_x (c : Dev nD) (p h q f) : ((chunkOf xM (poff p) h).view.loc (c : Thread nD τ) ↦[(chunkOf xM (poff p) h).view.set]{q} f : sProp 𝕄) = xP c p q f := by
  unfold xP
  exact congrArg (fun S : Finset S1x4096x2048.Idx => (((c : Thread nD τ).loc main_arg0) ↦[S]{q} f : sProp 𝕄)) (set_chunk_x p h)

/-- A copy started, its source in either buffer. -/
theorem wp_snd_gen (c n : Dev nD) (t : Tr) (hn : n = t.tgt σ c) (b : Memref sig .tc .hbm S1x4096x2048 .f32) (o : Fin 3 → ℕ)
    (ho : o = poff (t.pc (qd c))) (h : ∀ a, o a + S1x64x2048.size a ≤ S1x4096x2048.size a) {q : PosShare TreeShare}
    {hsc : (chunkOf oM o h : Memref sig (Dev.tc n : Thread nD τ).2.kind .hbm S64x2048 .f32).view.ref.isScScratch = false}
    {hsrc : (chunkOf b o h).view.WordExact} {hdst : (chunkOf oM o h).view.WordExact}
    {hsem : DmaTarget.Typed .hbm (.dma t.rS) (.remote (Dev.tc n : Thread nD τ) (chunkOf oM o h) (.dma t.sS) hsc)}
    {k : PUnit → Pg F} {Q : PUnit → sProp 𝕄} (fs : Buf (Elt F) ((chunkOf b o h).view.loc (c : Thread nD τ)))
    (hp : ((chunkOf b o h).view.loc (c : Thread nD τ) ↦[(chunkOf b o h).view.set]{q} fs : sProp 𝕄) = srcP σ m c t)
    (hv : ∀ (fd : Cont F), ∀ i ∈ (chunkOf oM o h).view.set,
      (chunkOf oM o h).view.write (Elt F) fd ((chunkOf b o h).view.read (Elt F) fs) Finset.univ i = bring σ m c t i)
    (O : CellTallies nD τ sig Unit) :
    iprop(records σ m K ∗ tokP σ m c (rdy t) ∗ tokP σ m c (src t) ∗ owesX c (O + dueOf σ c (.snd t)))
      ⊢ iprop(((tokP σ m c (crd t) ∗ owesX c O) -∗ wpB c (k ⟨⟩) Q)
          -∗ wpB c (.op (.enqueueDma (chunkOf b o h) (.remote (Dev.tc n : Thread nD τ) (chunkOf oM o h) (.dma t.sS) hsc)
              (.dma t.rS) hsrc hdst hsem) k) Q) := by
  subst hn
  subst ho
  have h1 : ((chunkOf b (poff (t.pc (qd c))) h).view.loc (c : Thread nD τ) ↦[(chunkOf b (poff (t.pc (qd c))) h).view.set]{q} fs : sProp 𝕄)
      ⊢ (Rd σ m).payload (sCell c t) 0 0 := by rw [hp, pay_s]
  have h2 (fd : Cont F) : ((chunkOf oM (poff (t.pc (qd c))) h).view.loc (t.tgt σ c : Thread nD τ) ↦[(chunkOf oM (poff (t.pc (qd c))) h).view.set]{fullShare}
      (chunkOf oM (poff (t.pc (qd c))) h).view.write (Elt F) fd ((chunkOf b (poff (t.pc (qd c))) h).view.read (Elt F) fs) Finset.univ : sProp 𝕄)
      ⊢ (Rd σ m).payload (rCell (t.tgt σ c) t) 0 0 := by
    rw [pay_r, pointsTo_congr (hv fd)]
    unfold gotP
    rw [Tr.rpc_tgt, chunk_o]
    exact BI.Entails.refl _
  simp only [tokP]
  unfold dstP owesX
  iintro ⟨#HR, ⟨⟨%fd, Hd⟩, HtS, HtR, Hat⟩, Hs, ⟨%W, HO⟩⟩ Hk
  ihave Hd' := (Entails.of_eq (chunk_o (F := F) (t.tgt σ c) (t.pc (qd c)) h fullShare fd).symm) $$ Hd
  ihave Hs' := (Entails.of_eq hp.symm) $$ Hs
  have hwp := Rounds.wp_send_pointsTo (defs := defs₀ (F := F)) (Γ := .empty) 𝒱₀ ER (Rd σ m) (c : Thread nD τ) none (c' := (t.tgt σ c : Thread nD τ))
    (src := chunkOf b (poff (t.pc (qd c))) h) (dst := chunkOf oM (poff (t.pc (qd c))) h) (sS := .dma t.sS) (sem := .dma t.rS)
    (hsc := hsc) (hsrc := hsrc) (hdst := hdst) (hsem := hsem) (k := k) (q := q) (fs := fs) (fd := fd) (Q := Q) (Es := Set.univ)
    (κ₁ := K (c, .inr (.inl t))) (κ₂ := K (t.tgt σ c, .inr (.inr t))) (r₁ := 0) (r₂ := 0) (d₁ := 0) (d₂ := 0)
    (Finset.mem_singleton_self _) (Finset.mem_singleton_self _)
    () () N (N_eq _ _) (amount_dma σ m c t.sS 0 0) (amount_dma σ m (t.tgt σ c) t.rS 0 0)
    (O₀ := O + dueOf σ c (.snd t)) O rfl (W := W) h1 (h2 fd)
  iapply hwp $$ [HO HtS HtR Hd' Hs']
  · isplitr; · iapply (records_inv σ m K c (.inr (.inl t))); iexact HR
    isplitr; · iapply (records_inv σ m K (t.tgt σ c) (.inr (.inr t))); iexact HR
    isplitl [Hs']; · iexact Hs'
    isplitl [Hd']; · iexact Hd'
    isplitl [HO]; · iexact HO
    isplitl [HtS]; · iexact HtS
    isplitr; · iapply (records_reached σ m K c (.inr (.inl t))); iexact HR
    isplitl [HtR]; · iexact HtR
    iapply (records_reached σ m K (t.tgt σ c) (.inr (.inr t))); iexact HR
  iintro ⟨Hc, HO⟩
  iapply Hk
  isplitl [Hc Hat]
  · isplitl [Hc] <;> iassumption
  iexists W; iexact HO

omit [FloatOps F] in
theorem chunk_o' (c : Dev nD) {o : Fin 3 → ℕ} {p} (ho : o = poff p) (h q f) :
    ((chunkOf oM o h).view.loc (c : Thread nD τ) ↦[(chunkOf oM o h).view.set]{q} f : sProp 𝕄) = oP c p q f := by subst ho; exact chunk_o c p h q f
omit [FloatOps F] in
theorem chunk_x' (c : Dev nD) {o : Fin 3 → ℕ} {p} (ho : o = poff p) (h q f) :
    ((chunkOf xM o h).view.loc (c : Thread nD τ) ↦[(chunkOf xM o h).view.set]{q} f : sProp 𝕄) = xP c p q f := by subst ho; exact chunk_x c p h q f

variable {c : Dev nD} {w : Words c}

theorem step_snd (hw : w.Good σ) (t : Tr) (O : CellTallies nD τ sig Unit) {k : PUnit → Pg F} {Q : PUnit → sProp 𝕄} :
    iprop(records σ m K ∗ tokP σ m c (rdy t) ∗ tokP σ m c (src t) ∗ owesX c (O + dueOf σ c (.snd t)))
      ⊢ iprop(((tokP σ m c (crd t) ∗ owesX c O) -∗ wpB c (k ⟨⟩) Q) -∗ wpB c (act w (.snd t) k) Q) := by
  have ho := off_eq c t
  have hn := dev_eq hw t
  have px := chunk_x' (F := F) c ho (t.off_inb c)
  have po := chunk_o' (F := F) c ho (t.off_inb c)
  have hx (fs : Cont F) (fd : Cont F) (i : S1x4096x2048.Idx) := copy_x (F := F) _ (t.off_inb c) fd fs i
  have hy (fs : Cont F) (fd : Cont F) (i : S1x4096x2048.Idx) := copy_o (F := F) _ (t.off_inb c) fd fs i
  obtain ⟨fs, hp, hv⟩ : ∃ fs : Buf (Elt F) ((chunkOf t.srcBuf (t.off c) (t.off_inb c)).view.loc (c : Thread nD τ)),
      ((chunkOf t.srcBuf (t.off c) (t.off_inb c)).view.loc (c : Thread nD τ) ↦[(chunkOf t.srcBuf (t.off c) (t.off_inb c)).view.set]{t.shr} fs : sProp 𝕄)
          = srcP σ m c t ∧
      ∀ (fd : Cont F), ∀ i ∈ (chunkOf oM (t.off c) (t.off_inb c)).view.set, (chunkOf oM (t.off c) (t.off_inb c)).view.write (Elt F) fd
        ((chunkOf t.srcBuf (t.off c) (t.off_inb c)).view.read (Elt F) fs) Finset.univ i = bring σ m c t i := by
    cases t with
    | z i => exact ⟨_, px _ _, hx _⟩
    | g i => exact ⟨_, px _ _, hx _⟩
    | xq i => exact ⟨_, po _ _, hy _⟩
    | yq i => exact ⟨_, po _ _, hy _⟩
    | xd i => exact ⟨_, po _ _, hy _⟩
    | yd i => exact ⟨_, po _ _, hy _⟩
  exact wp_snd_gen σ m K c _ t hn t.srcBuf _ ho (t.off_inb c) fs hp hv O

omit [FloatOps F] in
theorem records_may (c : Dev nD) (sm : SemLoc sig) {n : ℕ} {O : CellTallies nD τ sig Unit} (hl : lv ((c : Thread nD τ), sm) () ≤ n) (hO : Above n O) :
    records (F := F) σ m K ⊢ MayWait (c : Thread nD τ) sm () O := by
  refine BI.Entails.trans (Q := (levAts L lv : sProp 𝕄)) ?_ (mayWait (F := F) hl hO)
  exact @records_lev F σ m K

/-- A wait at one of the copies' semaphores, which this closes. -/
theorem wp_wait_gen (k : Cel) (s : DmaSem sig) (hs : csem k = .dma s) {sp : Space} {b : Memref sig .tc sp S64x2048 .f32}
    {a : Memref sig .tc .hbm S64x2048 .f32} {ha : a.view.WordExact} {hb : b.view.WordExact} (hN : b.view.dmaCredit = N)
    {n : ℕ} (O : CellTallies nD τ sig Unit) (hl : lv (kcell (c, k)) () ≤ n) (hO : Above n O)
    {P : sProp 𝕄} (hP : bigSep ((Rd (F := F) σ m).duties (kcell (c, k)) 0 \ ∅) (fun d => (Rd (F := F) σ m).payload (kcell (c, k)) 0 d) = P)
    {p : PUnit → Pg F} {Q : PUnit → sProp 𝕄} :
    iprop(records σ m K ∗ (cred (tallyAt (kcell (c, k)) () N) ∗ atPos ER (kcell (c, k)) 0 ∅ 0) ∗ owesX c O)
      ⊢ iprop(((semVal (kcell (c, k)) 0 ∗ P ∗ owesX c O) -∗ wpB c (p ⟨⟩) Q) -∗ wpB c (.op (.waitDma2 s a b ha hb) p) Q) := by
  have e : kcell (c, k) = ((c : Thread nD τ), .dma s) := congrArg (Prod.mk (c : Thread nD τ)) hs
  have hl' : lv ((c : Thread nD τ), .dma s) () ≤ n := by rw [← e]; exact hl
  have hmw := records_may σ m K c _ hl' hO
  unfold owesX
  iintro ⟨#HR, ⟨Hc, Hat⟩, ⟨%W, HO⟩⟩ Hk
  have hwp := Rounds.wp_wait_rest_token (defs := defs₀ (F := F)) (Γ := .empty) 𝒱₀ ER (Rd σ m) (c : Thread nD τ) none (κ := K (c, k))
    (w := .waitDma2 s a b ha hb) (sm := .dma s) (k' := N) (k := p) (Q := Q)
    (fun Kc => (wpE_waitDma2_eq 𝒱₀ (c : Thread nD τ) none Set.univ Kc).trans (by rw [hN])) (Set.mem_univ _) () (O := O) (W := W) (R := 0) (m := 0) (T := ∅)
    (by rw [expect_dma, Nat.zero_add])
  rw [← e] at hwp
  iapply hwp $$ [Hc HO Hat]
  · isplitr; · iapply (records_inv σ m K c k); iexact HR
    isplitl [Hc]; · iexact Hc
    isplitl [HO]; · iexact HO
    isplitr
    · iapply hmw; iexact HR
    iexact Hat
  iintro ⟨HO, Hat, -, Hp⟩
  ihave Hp := (Entails.of_eq hP) $$ Hp
  imod (Rounds.cell_close ER (Rd σ m) (Set.mem_univ (K (c, k))) (fun h => h) (R := 0 + 1) (duties_later σ m (kcell (c, k)))) $$ [Hat] with Hz
  · isplitr; · iapply (records_inv σ m K c k); iexact HR
    iexact Hat
  iapply Hk
  isplitl [Hz]; · iexact Hz
  isplitl [Hp]; · iexact Hp
  iexists _; iexact HO

/-- A wait for an arrival. -/
theorem step_rcv (t : Tr) (O : CellTallies nD τ sig Unit) (hO : Above t.lvl O) {k : PUnit → Pg F} {Q : PUnit → sProp 𝕄} :
    iprop(records σ m K ∗ tokP σ m c (awt t) ∗ owesX c O)
      ⊢ iprop(((tokP σ m c (zR t) ∗ gotP σ m c t ∗ owesX c O) -∗ wpB c (k ⟨⟩) Q) -∗ wpB c (act w (.rcv t) k) Q) :=
  wp_wait_gen σ m K (.inr (.inr t)) t.rS rfl (N_eq _ _) O (le_of_eq (lv_r c t)) hO (rest_r (F := F) σ m c t)

/-- A wait for one's own copy to have left. -/
theorem step_ret (t : Tr) (O : CellTallies nD τ sig Unit) (hO : Above 0 O) {k : PUnit → Pg F} {Q : PUnit → sProp 𝕄} :
    iprop(records σ m K ∗ tokP σ m c (crd t) ∗ owesX c O)
      ⊢ iprop(((tokP σ m c (zS t) ∗ tokP σ m c (src t) ∗ owesX c O) -∗ wpB c (k ⟨⟩) Q) -∗ wpB c (act w (.ret t) k) Q) :=
  wp_wait_gen σ m K (.inr (.inl t)) t.sS rfl (by cases t <;> first | exact N_eq _ _ | exact N_eq_x _ _) O (le_of_eq (lv_s c t)) hO (rest_s (F := F) σ m c t)

/-- A list of copies and waits, run from the tokens it starts with to the tokens it ends with. -/
theorem run_steps (hw : w.Good σ) (after : List Step) (p : Pg F) (Q : PUnit → sProp 𝕄) : ∀ (l : List Step) (S S' : List Tok), exec after l S = some S' →
    iprop(records σ m K ∗ held σ m c S ∗ owesX c (dues σ c (l ++ after)))
      ⊢ iprop(((held σ m c S' ∗ owesX c (dues σ c after)) -∗ wpB c p Q) -∗ wpB c (runL w l p) Q)
  | [], S, S', h => by
    obtain rfl : S = S' := Option.some.inj h
    simp only [List.nil_append, runL]
    iintro ⟨-, H⟩ Hk
    iapply Hk; iexact H
  | .snd t :: l, S, S', h => by
    simp only [exec] at h
    split at h
    case isTrue hm =>
      have ih := run_steps hw after p Q l _ S' h
      rw [held_take σ m c hm.1, held_take σ m c hm.2, List.cons_append, dues_cons]
      simp only [runL]
      rw [held_cons] at ih
      iintro ⟨#HR, ⟨Hr, Hs, Hrest⟩, HO⟩ Hk
      iapply (step_snd σ m K hw t _) $$ [Hr Hs HO]
      · isplitr; · iexact HR
        isplitl [Hr]; · iexact Hr
        isplitl [Hs]; · iexact Hs
        iexact HO
      iintro ⟨Hc, HO⟩
      iapply ih $$ [Hc HO Hrest] [Hk]
      · isplitr; · iexact HR
        isplitl [Hc Hrest]
        · isplitl [Hc]; · iexact Hc
          iexact Hrest
        iexact HO
      iexact Hk
    case isFalse => cases h
  | .rcv t :: l, S, S', h => by
    simp only [exec] at h
    split at h
    case isTrue hm =>
      have ih := run_steps hw after p Q l _ S' h
      have e0 : dueOf σ c (.rcv t) = 0 := rfl
      rw [held_take σ m c hm.1, List.cons_append, dues_cons, e0, add_zero]
      simp only [runL]
      rw [held_cons, held_append, held_lands] at ih
      iintro ⟨#HR, ⟨Hr, Hrest⟩, HO⟩ Hk
      iapply (step_rcv σ m K t _ (above_dues σ hm.2)) $$ [Hr HO]
      · isplitr; · iexact HR
        isplitl [Hr]; · iexact Hr
        iexact HO
      iintro ⟨Hz, Hg, HO⟩
      iapply ih $$ [Hz Hg HO Hrest] [Hk]
      · isplitr; · iexact HR
        isplitl [Hz Hg Hrest]
        · isplitl [Hz]; · iexact Hz
          isplitl [Hg]; · iexact Hg
          iexact Hrest
        iexact HO
      iexact Hk
    case isFalse => cases h
  | .ret t :: l, S, S', h => by
    simp only [exec] at h
    split at h
    case isTrue hm =>
      have ih := run_steps hw after p Q l _ S' h
      have e0 : dueOf σ c (.ret t) = 0 := rfl
      rw [held_take σ m c hm.1, List.cons_append, dues_cons, e0, add_zero]
      simp only [runL]
      rw [held_cons, held_cons] at ih
      iintro ⟨#HR, ⟨Hr, Hrest⟩, HO⟩ Hk
      iapply (step_ret σ m K t _ (above_dues σ hm.2)) $$ [Hr HO]
      · isplitr; · iexact HR
        isplitl [Hr]; · iexact Hr
        iexact HO
      iintro ⟨Hz, Hg, HO⟩
      iapply ih $$ [Hz Hg HO Hrest] [Hk]
      · isplitr; · iexact HR
        isplitl [Hz Hg Hrest]
        · isplitl [Hz]; · iexact Hz
          isplitl [Hg]; · iexact Hg
          iexact Hrest
        iexact HO
      iexact Hk
    case isFalse => cases h
  | .sig1 r :: l, S, S', h => by cases h
  | .wait1 :: l, S, S', h => by cases h
  | .sig2 r :: l, S, S', h => by cases h
  | .wait2 :: l, S, S', h => by cases h

/-! ## The copies of the body -/

/-- The steps between the two barriers. -/
def middle : List Step := phase2 ++ phase3 ++ phase4 ++ phase5 ++ phase6

/-- The copies that read the argument itself. -/
def own : List Tr := Tr.list.filter fun t => t.role == 0 || t.role == 1

/-- The tokens held before the first copy, and after the last wait. -/
def iniL : List Tok := (Tr.list.flatMap fun t => [rdy t, awt t]) ++ own.map src
def finL : List Tok := (Tr.list.flatMap fun t => [zS t, zR t]) ++ own.map src ++ Tr.list.flatMap lands

theorem exec_middle : ((exec phase7 middle iniL).map fun S => S.isPerm finL) = some true := by decide +kernel

end Cert.Permute

end
-- ==== Proof.Body.lean ====
/-
# The body

The two barriers (`run_barrier`, said once for both), the pieces a device's two buffers are cut into and put together
from, and the body from a device's share of the launch to the finished result (`run_body`).
-/
module

public import proofs.«01_k».proof.Proof.Exec
public import Idealize.ShloMosaic.Lib.Ring

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (K : Dev nD × Cel → ℕ)

/-! ## The barriers -/

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The semaphore of a barrier, its level, the steps that signal at it, and the one that waits. -/
def barS : Bool → Sem sig | false => bar1 | true => bar2
def barLvl : Bool → ℕ | false => 1 | true => 5
def barSig : Bool → Fin 4 → Step | false, r => .sig1 r | true, r => .sig2 r
def barWait : Bool → Step | false => .wait1 | true => .wait2

theorem csem_bar (b : Bool) : csem (.inl b) = .reg (barS b) := by cases b <;> rfl
theorem cell_bar (c : Dev nD) (b : Bool) : bCell c b = ((c : Thread nD τ), .reg (barS b)) := congrArg (Prod.mk (c : Thread nD τ)) (csem_bar b)
theorem lv_bar (c : Dev nD) (b : Bool) : lv (bCell c b) () = barLvl b := by
  cases b
  · exact lv_bar1 c
  · exact lv_bar2 c
theorem due_bar (c : Dev nD) (b : Bool) (r : Fin 4) : dueOf σ c (barSig b r) = tallyAt (bCell (out4 σ c r) b) () 1 := by cases b <;> rfl
theorem due_wait (c : Dev nD) (b : Bool) : dueOf σ c (barWait b) = 0 := by cases b <;> rfl

/-- What a barrier's signal hands over. -/
def payB (c : Dev nD) (b : Bool) (r : Fin 4) : sProp 𝕄 := (Rd σ m).payload (bCell c b) 0 r

variable {c : Dev nD} {w : Words c}

theorem act_sig (b : Bool) (r : Fin 4) (k : PUnit → Pg F) :
    act w (barSig b r) k = .op (.semSignal ((sigDev w r : Dev nD) : Thread nD τ) (barS b) (1#32).toInt) k := by cases b <;> rfl
theorem act_wait (b : Bool) (k : PUnit → Pg F) : act w (barWait b) k = .op (.semWait (barS b) (4#32).toInt) k := by cases b <;> rfl

/-- A signal at a barrier. -/
theorem step_sig (hw : w.Good σ) (b : Bool) (r : Fin 4) (O : CellTallies nD τ sig Unit) {k : PUnit → Pg F} {Q : PUnit → sProp 𝕄} :
    iprop(records σ m K ∗ (dutyTok ER (bCell (out4 σ c r) b) 0 r ∗ payB σ m (out4 σ c r) b r) ∗ owesX c (O + dueOf σ c (barSig b r)))
      ⊢ iprop((owesX c O -∗ wpB c (k ⟨⟩) Q) -∗ wpB c (act w (barSig b r) k) Q) := by
  rw [act_sig, sigDev_eq hw, due_bar]
  unfold owesX payB
  iintro ⟨#HR, ⟨Ht, Hp⟩, ⟨%W, HO⟩⟩ Hk
  have hwp := Rounds.wp_signal (defs := defs₀ (F := F)) (Γ := .empty) 𝒱₀ ER (Rd σ m) (c : Thread nD τ) none (dst := (out4 σ c r : Thread nD τ))
    (sem := barS b) (κ := K (out4 σ c r, .inl b)) (r := 0) (d := r) (k' := (1#32).toInt.toNat) (k := k) (Q := Q) (Es := Set.univ)
    (Finset.mem_univ _) (amount_reg σ m (out4 σ c r) (barS b) 0 r) () O rfl (W := W)
  rw [← cell_bar] at hwp
  iapply hwp $$ [HO Ht Hp]
  · isplitr; · iapply (records_inv σ m K (out4 σ c r) (.inl b)); iexact HR
    isplitl [HO]; · iexact HO
    isplitl [Ht]; · iexact Ht
    isplitl [Hp]; · iexact Hp
    iapply (records_reached σ m K (out4 σ c r) (.inl b)); iexact HR
  iintro HO
  iapply Hk
  iexists W; iexact HO

/-- The wait at a barrier, which closes its semaphore. -/
theorem step_wait (b : Bool) (O : CellTallies nD τ sig Unit) (hO : Above (barLvl b) O) {k : PUnit → Pg F} {Q : PUnit → sProp 𝕄} :
    iprop(records σ m K ∗ (cred (tallyAt (bCell c b) () 4) ∗ atPos ER (bCell c b) 0 ∅ 0) ∗ owesX c O)
      ⊢ iprop(((semVal (bCell c b) 0 ∗ bigSep Finset.univ (payB σ m c b) ∗ owesX c O) -∗ wpB c (k ⟨⟩) Q)
          -∗ wpB c (act w (barWait b) k) Q) := by
  have hl' : lv ((c : Thread nD τ), .reg (barS b)) () ≤ barLvl b := by rw [← cell_bar]; exact le_of_eq (lv_bar c b)
  have hmw := records_may σ m K c _ hl' hO
  rw [act_wait]
  unfold owesX
  iintro ⟨#HR, ⟨Hc, Hat⟩, ⟨%W, HO⟩⟩ Hk
  have hwp := Rounds.wp_wait_rest_token (defs := defs₀ (F := F)) (Γ := .empty) 𝒱₀ ER (Rd σ m) (c : Thread nD τ) none (κ := K (c, .inl b))
    (w := .semWait (barS b) (4#32).toInt) (sm := .reg (barS b)) (k' := 4) (k := k) (Q := Q)
    (wpE_semWait_eq 𝒱₀ (c : Thread nD τ) none Set.univ) (Set.mem_univ _) () (O := O) (W := W) (R := 0) (m := 0) (T := ∅)
    (by rw [expect_reg, Nat.zero_add])
  rw [← cell_bar] at hwp
  iapply hwp $$ [Hc HO Hat]
  · isplitr; · iapply (records_inv σ m K c (.inl b)); iexact HR
    isplitl [Hc]; · iexact Hc
    isplitl [HO]; · iexact HO
    isplitr
    · iapply hmw; iexact HR
    iexact Hat
  iintro ⟨HO, Hat, -, Hp⟩
  imod (Rounds.cell_close ER (Rd σ m) (Set.mem_univ (K (c, .inl b))) (fun h => h) (R := 0 + 1) (duties_later σ m (bCell c b))) $$ [Hat] with Hz
  · isplitr; · iapply (records_inv σ m K c (.inl b)); iexact HR
    iexact Hat
  have hp : bigSep ((Rd (F := F) σ m).duties (bCell c b) 0 \ ∅) (fun d => (Rd (F := F) σ m).payload (bCell c b) 0 d) = bigSep Finset.univ (payB σ m c b) := by
    rw [cell_bar, Finset.sdiff_empty, duties_reg, ← cell_bar]; rfl
  ihave Hp := (Entails.of_eq hp) $$ Hp
  iapply Hk
  isplitl [Hz]; · iexact Hz
  isplitl [Hp]; · iexact Hp
  iexists _; iexact HO

/-- The steps of a barrier. -/
def barrier (b : Bool) : List Step := [barSig b 0, barSig b 1, barSig b 2, barSig b 3, barWait b]

/-- A barrier run: four signals with what they hand over, and a wait that brings what four others handed over. -/
theorem run_barrier (hw : w.Good σ) (b : Bool) (l : List Step) (hl : l.all (stepAbove (barLvl b)) = true) (p : Pg F) (Q : PUnit → sProp 𝕄) :
    iprop(records σ m K ∗ (bigSep Finset.univ fun r => iprop(dutyTok ER (bCell (out4 σ c r) b) 0 r ∗ payB σ m (out4 σ c r) b r))
        ∗ (cred (tallyAt (bCell c b) () 4) ∗ atPos ER (bCell c b) 0 ∅ 0) ∗ owesX c (dues σ c (barrier b ++ l)))
      ⊢ iprop(((semVal (bCell c b) 0 ∗ bigSep Finset.univ (payB σ m c b) ∗ owesX c (dues σ c l)) -∗ wpB c p Q)
          -∗ wpB c (runL w (barrier b) p) Q) := by
  rw [four]
  unfold barrier
  simp only [List.cons_append, List.nil_append, runL, dues_cons, due_wait, add_zero]
  iintro ⟨#HR, ⟨H0, H1, H2, H3⟩, Hc, HO⟩ Hk
  iapply (step_sig σ m K hw b 0 _) $$ [H0 HO]
  · isplitr; · iexact HR
    isplitl [H0] <;> iassumption
  iintro HO
  iapply (step_sig σ m K hw b 1 _) $$ [H1 HO]
  · isplitr; · iexact HR
    isplitl [H1] <;> iassumption
  iintro HO
  iapply (step_sig σ m K hw b 2 _) $$ [H2 HO]
  · isplitr; · iexact HR
    isplitl [H2] <;> iassumption
  iintro HO
  iapply (step_sig σ m K hw b 3 _) $$ [H3 HO]
  · isplitr; · iexact HR
    isplitl [H3] <;> iassumption
  iintro HO
  iapply (step_wait σ m K b _ (above_dues σ hl)) $$ [Hc HO]
  · isplitr; · iexact HR
    isplitl [Hc] <;> iassumption
  iexact Hk

/-! ## Lists of tokens, and families over the copies -/

theorem nodup_list : Tr.list.Nodup := by decide +kernel
theorem univ_val : (Finset.univ : Finset Tr).val = (Tr.list : Multiset Tr) := by
  show Tr.list.toFinset.val = _
  rw [List.toFinset_val, nodup_list.dedup]

omit [FloatOps F] in
theorem list_sep (Φ : Tr → sProp 𝕄) : bigSepM (Tr.list : Multiset Tr) Φ = bigSep Finset.univ Φ := by
  show _ = bigSepM (Finset.univ : Finset Tr).val Φ
  rw [univ_val]

open Tok

omit [FloatOps F] in
theorem held_flat (c : Dev nD) (f : Tr → List Tok) : ∀ l : List Tr,
    held (F := F) σ m c (l.flatMap f) = bigSepM (l : Multiset Tr) fun t => held σ m c (f t)
  | [] => rfl
  | t :: l => by
    rw [List.flatMap_cons, held_append, held_flat c f l]
    exact (bigSepM_cons t (l : Multiset Tr) fun t => held σ m c (f t)).symm

omit [FloatOps F] in
theorem held_two (c : Dev nD) (a b : Tok) : held (F := F) σ m c [a, b] = iprop(tokP σ m c a ∗ tokP σ m c b) := by
  rw [held_cons]
  exact congrArg (fun P => iprop(tokP σ m c a ∗ P)) (bigSepM_singleton b _)

omit [FloatOps F] in
theorem held_all (c : Dev nD) (f : Tr → List Tok) : held (F := F) σ m c (Tr.list.flatMap f) = bigSep Finset.univ fun t => held σ m c (f t) := by
  rw [held_flat, list_sep]

/-- The sources the launch hands a device: the pieces of its operand its own copies read. -/
def ownSrc (c : Dev nD) : sProp 𝕄 := held σ m c (own.map src)

/-- A family over all copies, that of those that read the operand taken out. -/
def rest : List Tr := Tr.list.filter fun t => !(t.role == 0 || t.role == 1)
theorem own_perm : (own ++ rest).Perm Tr.list := List.filter_append_perm _ _

omit [FloatOps F] in
theorem own_src (c : Dev nD) : ∀ t ∈ own, tokP (F := F) σ m c (src t) = xP c (t.rpc (qd c)) fullShare (X m c) := by
  intro t ht
  have hr : t.role = 1 := by
    have := (List.mem_filter.mp ht).2
    cases t <;> first | rfl | (exfalso; revert this; simp only [Tr.role]; decide)
  have no2 : ¬ (2 : Fin 4) = 1 := by decide
  have no3 : ¬ (3 : Fin 4) = 1 := by decide
  cases t with
  | z i =>
    have hb : bring σ m c (.z i) = X m c := by unfold bring Tr.orgn Tr.tgt in4; simp only [Tr.role, inv_zmap]
    simp only [tokP, srcP, hb, Tr.pc, Tr.rpc, Tr.shr]
  | g i =>
    have hb : bring σ m c (.g i) = X m c := by unfold bring Tr.orgn Tr.tgt in4; simp only [Tr.role, inv_zmap]
    simp only [tokP, srcP, hb, Tr.pc, Tr.rpc, Tr.shr]
  | xq i => exact absurd hr no2
  | yq i => exact absurd hr no3
  | xd i => exact absurd hr no2
  | yd i => exact absurd hr no3

/-- The rest of the operand, which no copy reads. -/
def xRest (c : Dev nD) : sProp 𝕄 := bigSepM (rest : Multiset Tr) fun t => xP c (t.rpc (qd c)) fullShare (X m c)

omit [FloatOps F] in
theorem bigSepM_list_congr {I : Type} {Φ Ψ : I → sProp 𝕄} : ∀ {l : List I}, (∀ i ∈ l, Φ i = Ψ i) → bigSepM (l : Multiset I) Φ = bigSepM (l : Multiset I) Ψ
  | [], _ => rfl
  | x :: l, h => by
    rw [← Multiset.cons_coe, bigSepM_cons, bigSepM_cons, h x List.mem_cons_self, bigSepM_list_congr fun i hi => h i (List.mem_cons_of_mem _ hi)]

omit [FloatOps F] in
theorem bigSepM_list_map {I J : Type} (f : J → I) (Φ : I → sProp 𝕄) (l : List J) :
    bigSepM ((l.map f : List I) : Multiset I) Φ = bigSepM (l : Multiset J) fun j => Φ (f j) := by
  unfold bigSepM; rw [← Multiset.map_coe, Multiset.map_map]; rfl

omit [FloatOps F] in
/-- The operand whole is what its copies read and the rest. -/
theorem x_split (c : Dev nD) : (((c : Thread nD τ).loc main_arg0) ↦{fullShare} X m c : sProp 𝕄) = iprop(ownSrc σ m c ∗ xRest m c) := by
  rw [Ring.pointsTo_blocks (Val := Elt F) (ℓ := (c : Thread nD τ).loc main_arg0) pset (fun _ _ h => pset_disjoint h) pset_cover (X m c),
    bigSep_univ_equiv (Tr.rpcE (qd c))]
  show bigSep Finset.univ (fun t : Tr => xP c (t.rpc (qd c)) fullShare (X m c)) = _
  rw [← list_sep, ← Multiset.coe_eq_coe.mpr own_perm, ← Multiset.coe_add, bigSepM_add]
  unfold ownSrc xRest held
  rw [bigSepM_list_map, bigSepM_list_congr (own_src σ m c)]
  rfl

/-! ## The result -/

/-- What device `c` ends up with: each piece from the device whose operand it was. -/
def G (c : Dev nD) : Cont F := fun i => X m (((Tr.rpcE (qd c)).symm (pieceOf i)).orgn σ c) i

omit [FloatOps F] in
theorem out_join (c : Dev nD) : bigSep Finset.univ (fun t => gotP (F := F) σ m c t) = (((c : Thread nD τ).loc main_v1) ↦{fullShare} G σ m c : sProp 𝕄) := by
  rw [Ring.pointsTo_blocks (Val := Elt F) (ℓ := (c : Thread nD τ).loc main_v1) pset (fun _ _ h => pset_disjoint h) pset_cover (G σ m c),
    bigSep_univ_equiv (Tr.rpcE (qd c)) (fun b => (((c : Thread nD τ).loc main_v1) ↦[pset b]{fullShare} G σ m c : sProp 𝕄))]
  refine bigSep_congr fun t _ => ?_
  unfold gotP oP
  refine pointsTo_congr fun i hi => ?_
  have hp : pieceOf i = Tr.rpcE (qd c) t := mem_pset.mp hi
  unfold G
  rw [hp, Equiv.symm_apply_apply]

omit [FloatOps F] in
theorem some_contents (c : Dev nD) (p) (f : Cont F) : oP c p fullShare f ⊢ (iprop(∃ f, oP c p fullShare f) : sProp 𝕄) := by
  iintro H
  iexists f
  iexact H

omit [FloatOps F] in
/-- The result's buffer at launch, as what the four signals of barrier one hand over. -/
theorem out_split (c : Dev nD) (f : Cont F) : (((c : Thread nD τ).loc main_v1) ↦{fullShare} f : sProp 𝕄)
    ⊢ bigSep Finset.univ fun r => payB σ m (out4 σ c r) false r := by
  rw [Ring.pointsTo_blocks (Val := Elt F) (ℓ := (c : Thread nD τ).loc main_v1) pset (fun _ _ h => pset_disjoint h) pset_cover f,
    bigSep_univ_equiv (Tr.rpcE (qd c)) (fun b => (((c : Thread nD τ).loc main_v1) ↦[pset b]{fullShare} f : sProp 𝕄)), by_role]
  refine bigSep_mono fun r _ => ?_
  unfold payB
  rw [pay_bar1]
  unfold bar1P
  refine bigSep_mono fun t ht => ?_
  obtain rfl := (Finset.mem_filter.mp ht).2
  unfold dstP
  have e1 : t.tgt σ (out4 σ c t.role) = c := Tr.tgt_src σ c t
  have e2 : t.pc (qd (out4 σ c t.role)) = t.rpc (qd c) := Tr.pc_src σ c t
  rw [e1, e2]
  exact some_contents c _ f

omit [FloatOps F] in
theorem pay_room (c : Dev nD) : bigSep Finset.univ (payB (F := F) σ m c false) = bigSep Finset.univ (dstP σ c) := by
  unfold payB
  rw [bigSep_congr fun d _ => pay_bar1 σ m c d 0]
  exact (by_role (dstP σ c)).symm

/-! ## The body after its loads -/

/-- What the launch deals a device: the tokens of the duties it pays, and its places at its own semaphores. -/
def mine (c : Dev nD) : sProp 𝕄 :=
  iprop((bigSep Finset.univ fun r => dutyTok ER (bCell (out4 σ c r) false) 0 r) ∗ (bigSep Finset.univ fun r => dutyTok ER (bCell (out4 σ c r) true) 0 r)
    ∗ (bigSep Finset.univ fun t => dutyTok ER (sCell c t) 0 0) ∗ (bigSep Finset.univ fun t => dutyTok ER (rCell (t.tgt σ c) t) 0 0)
    ∗ atPos ER (bCell c false) 0 ∅ 0 ∗ atPos ER (bCell c true) 0 ∅ 0
    ∗ (bigSep Finset.univ fun t => atPos ER (sCell c t) 0 ∅ 0) ∗ (bigSep Finset.univ fun t => atPos ER (rCell c t) 0 ∅ 0))

/-- The credits of the signals and copies that come to it. -/
def credits (c : Dev nD) : sProp 𝕄 :=
  iprop(cred (tallyAt (bCell c false) () 4) ∗ cred (tallyAt (bCell c true) () 4) ∗ bigSep Finset.univ fun t => cred (tallyAt (rCell c t) () N))

/-- All its semaphores back at zero. -/
def zeros (c : Dev nD) : sProp 𝕄 :=
  iprop(semVal (bCell c false) 0 ∗ semVal (bCell c true) 0 ∗ (bigSep Finset.univ fun t => semVal (sCell c t) 0) ∗ bigSep Finset.univ fun t => semVal (rCell c t) 0)

def xPts (c : Dev nD) : sProp 𝕄 := ((c : Thread nD τ).loc main_arg0) ↦{fullShare} X m c
def oPts (c : Dev nD) (f : Cont F) : sProp 𝕄 := ((c : Thread nD τ).loc main_v1) ↦{fullShare} f

omit [FloatOps F] in
/-- The tokens the copies start with. -/
theorem held_ini (c : Dev nD) : held (F := F) σ m c iniL = iprop((((bigSep Finset.univ (dstP σ c)) ∗ (bigSep Finset.univ fun t => dutyTok ER (sCell c t) 0 0)
      ∗ (bigSep Finset.univ fun t => dutyTok ER (rCell (t.tgt σ c) t) 0 0) ∗ (bigSep Finset.univ fun t => atPos ER (sCell c t) 0 ∅ 0))
    ∗ ((bigSep Finset.univ fun t => cred (tallyAt (rCell c t) () N)) ∗ bigSep Finset.univ fun t => atPos ER (rCell c t) 0 ∅ 0)) ∗ ownSrc σ m c) := by
  unfold iniL ownSrc
  rw [held_append, held_all]
  simp only [held_two, tokP, bigSep_sep']

omit [FloatOps F] in
/-- The tokens they end with. -/
theorem held_fin (c : Dev nD) : held (F := F) σ m c finL = iprop((((bigSep Finset.univ fun t => semVal (sCell c t) 0) ∗ bigSep Finset.univ fun t => semVal (rCell c t) 0)
    ∗ ownSrc σ m c) ∗ oPts c (G σ m c)) := by
  unfold finL ownSrc oPts
  rw [held_append, held_append, held_all, held_all]
  simp only [held_two, held_lands, tokP, bigSep_sep']
  rw [out_join]

variable {σ}

/-- The steps of the body, from a device's share of the launch to the finished result. -/
theorem run_body (hw : w.Good σ) (f : Cont F) (p : Pg F) (Q : PUnit → sProp 𝕄) :
    iprop(records σ m K ∗ mine σ c ∗ credits c ∗ xPts m c ∗ oPts c f ∗ owesX c (dues σ c steps))
      ⊢ iprop(((xPts m c ∗ oPts c (G σ m c) ∗ zeros c ∗ owesX c 0) -∗ wpB c p Q) -∗ wpB c (runL w steps p) Q) := by
  have hs : steps = barrier false ++ (middle ++ phase7) := by decide +kernel
  have h7 : phase7 = barrier true ++ [] := rfl
  obtain ⟨S', he, hp⟩ : ∃ S', exec phase7 middle iniL = some S' ∧ S'.Perm finL := by
    have h := exec_middle
    cases he : exec phase7 middle iniL with
    | none => rw [he] at h; cases h
    | some S' => rw [he] at h; exact ⟨S', rfl, List.isPerm_iff.mp (Option.some.inj h)⟩
  have B1 := run_barrier σ m K hw false (middle ++ phase7) (by decide +kernel) (runL w (middle ++ phase7) p) Q
  have M := run_steps σ m K hw phase7 (runL w phase7 p) Q middle iniL S' he
  have B2 := run_barrier σ m K hw true [] rfl p Q
  rw [held_perm σ m c hp, held_ini, held_fin] at M
  rw [pay_room, bigSep_sep'] at B1
  rw [bigSep_sep'] at B2
  rw [← h7] at B2
  have e7 : runL w phase7 p = runL w (barrier true) p := rfl
  have z0 : dues σ c [] = 0 := rfl
  rw [z0] at B2
  rw [hs, runL_append, runL_append]
  rw [← e7] at B2
  rw [runL_append] at B1
  unfold mine credits xPts zeros
  rw [x_split σ m c]
  have hemp : (iprop(emp) : sProp 𝕄) ⊢ bigSep Finset.univ fun r => payB σ m (out4 σ c r) true r := by
    rw [bigSep_congr fun r _ => show payB σ m (out4 σ c r) true r = iprop(emp) from pay_bar2 σ m _ r 0]
    exact Entails.of_eq (BI.bigSep_emp_const _).symm
  iintro ⟨#HR, ⟨Ht1, Ht2, HtS, HtR, Ha1, Ha2, HaS, HaR⟩, ⟨Hc1, Hc2, HcR⟩, ⟨Hx, HxR⟩, Ho, HO⟩ Hk
  iapply B1 $$ [Ht1 Ho Hc1 Ha1 HO]
  · isplitr; · iexact HR
    isplitl [Ht1 Ho]
    · isplitl [Ht1]; · iexact Ht1
      iapply (out_split σ m c f); unfold oPts; iexact Ho
    isplitl [Hc1 Ha1]
    · isplitl [Hc1] <;> iassumption
    iexact HO
  iintro ⟨Hz1, Hd, HO⟩
  iapply M $$ [HtS HtR HaS HaR HcR Hx Hd HO]
  · isplitr; · iexact HR
    isplitl [HtS HtR HaS HaR HcR Hx Hd]
    · isplitl [HtS HtR HaS HaR HcR Hd]
      · isplitl [HtS HtR HaS Hd]
        · isplitl [Hd]; · iexact Hd
          isplitl [HtS]; · iexact HtS
          isplitl [HtR] <;> iassumption
        isplitl [HcR] <;> iassumption
      iexact Hx
    iexact HO
  iintro ⟨⟨⟨⟨HzS, HzR⟩, Hx⟩, Ho⟩, HO⟩
  iapply B2 $$ [Ht2 Hc2 Ha2 HO]
  · isplitr; · iexact HR
    isplitl [Ht2]
    · isplitl [Ht2]; · iexact Ht2
      iapply hemp; iempintro
    isplitl [Hc2 Ha2]
    · isplitl [Hc2] <;> iassumption
    iexact HO
  iintro ⟨Hz2, -, HO⟩
  iapply Hk
  isplitl [Hx HxR]
  · isplitl [Hx] <;> iassumption
  isplitl [Ho]; · iexact Ho
  isplitl [Hz1 Hz2 HzS HzR]
  · isplitl [Hz1]; · iexact Hz1
    isplitl [Hz2]; · iexact Hz2
    isplitl [HzS] <;> iassumption
  iexact HO

end Cert.Permute

end
-- ==== Proof.Point.lean ====
/-
# The kernel's one grid point

The loads of the staged table, and the body obligation of the pipeline's one point: from a device's share of the launch
and the staged table, the body runs to the finished result.
-/
module

public import proofs.«01_k».proof.Proof.Body

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## The table -/

abbrev Table (F : FTy → Type) : Type := (cc0_stg0_0 : Ref sig .tc).ty.Contents (Elt F)

/-- The staged table spells the permutation. -/
def Spells (ts : Table F) : Prop := ∀ i : S4.Idx, ts i = piw σ (i 0)

def tabP (c : Dev nD) (ts : Table F) : sProp 𝕄 := ((c : Thread nD τ).loc cc0_stg0_0) ↦{fullShare} ts

variable {σ}

/-- Loading one word of it. -/
theorem load_word (c : Dev nD) {ts : Table F} (hts : Spells σ ts) (o : Fin 1 → ℕ) (hi) (j : Fin 4) (ho : o 0 = j.val)
    (k : BitVec 32 → Pg F) (Q : PUnit → sProp 𝕄) :
    tabP c ts ⊢ iprop((tabP c ts -∗ wpB c (k (piw σ j)) Q)
      -∗ wpB c ((smemLoad (Memref.whole cc0_stg0_0) (Rect.unit (s := S4) o S1.size hi) numel1_S1 rfl).bind k) Q) := by
  have hv : ((Memref.whole cc0_stg0_0).access (Rect.unit (s := S4) o S1.size hi) : View sig .tc _ _ _).read (Elt F) ts
      (Shape.Idx.first (s := S1) (numel1_S1.symm ▸ Nat.one_pos)) = piw σ j := by
    refine (hts _).trans (congrArg (piw σ) (Fin.ext ?_))
    show o 0 + 1 * 0 = j.val
    omega
  simp only [smemLoad, smemLoadElt, Prog.bind_op, Prog.bind_ret]
  rw [← hv]
  exact wp_load_rect (defs := defs₀ (F := F)) (Γ := .empty) (Q := Q) (f := ts) (q := fullShare) (S := Finset.univ) 𝒱₀ (c : Thread nD τ) none Set.univ
    (m := Memref.whole cc0_stg0_0) (r := Rect.unit (s := S4) o S1.size hi) (k := fun f => k (f _)) (Finset.subset_univ _)

theorem off1_eq (d : Dev nD) : k0_off1 d 0 = (zOf d).val := by
  have : ∀ d : Dev nD, k0_off1 d 0 = (zOf d).val := by decide +kernel
  exact this d

/-- The loads: the body goes on with words that spell the permutation. -/
theorem run_loads (c : Dev nD) {ts : Table F} (hts : Spells σ ts) (p : (d : Dev nD) → Words d → Pg F) (Q : PUnit → sProp 𝕄) :
    tabP c ts ⊢ iprop((∀ w : Words c, ⌜w.Good σ⌝ -∗ tabP c ts -∗ wpB c (p c w) Q) -∗ wpB c (loads (Memref.whole cc0_stg0_0) p) Q) := by
  iintro Ht Hk
  iapply (Entails.of_eq (wp_deviceId (defs := defs₀ (F := F)) (Γ := .empty) 𝒱₀ (c : Thread nD τ) none Set.univ).symm)
  iapply (load_word c hts _ _ (zOf c) (off1_eq c)) $$ Ht; iintro Ht
  iapply (Entails.of_eq (wp_assume_of (defs := defs₀ (F := F)) 𝒱₀ (c : Thread nD τ) none Set.univ (d := k0_chk1.dec _ _) (chk1 σ c)).symm)
  iapply (load_word c hts _ _ 0 rfl) $$ Ht; iintro Ht
  iapply (load_word c hts _ _ 1 rfl) $$ Ht; iintro Ht
  iapply (load_word c hts _ _ 2 rfl) $$ Ht; iintro Ht
  iapply (load_word c hts _ _ 3 rfl) $$ Ht; iintro Ht
  iapply (Entails.of_eq (wp_assume_of (defs := defs₀ (F := F)) 𝒱₀ (c : Thread nD τ) none Set.univ (d := k0_chk2.dec _ _ _ _ _) (chk2 σ c)).symm)
  ispecialize Hk $$ %(⟨piw σ (zOf c), ![piw σ 0, piw σ 1, piw σ 2, piw σ 3], chk1 σ c, chk2 σ c⟩ : Words c)
  iapply Hk
  · ipureintro; exact ⟨rfl, fun k => by fin_cases k <;> rfl⟩
  iexact Ht

variable (σ)

/-! ## The point's invariants -/

/-- The table as staged. -/
def tstg (c : Dev nD) : Table F := (win0_0.blk (0 : Fin 1)).view.read (Elt F) (m ((c : Thread nD τ).loc main_arg1))

/-- Every device's table spells the permutation. -/
def Tabled : Prop := ∀ (c : Dev nD) (i : S4.Idx), m ((c : Thread nD τ).loc main_arg1) i = piw σ (i 0)

omit [FloatOps F] in
theorem tstg_spells {σ} {m : (ℓ : Loc nD τ sig) → Buf (Elt F) ℓ} (h : Tabled σ m) (c : Dev nD) : Spells σ (tstg m c) := fun i => by
  show m ((c : Thread nD τ).loc main_arg1) _ = _
  rw [h]
  refine congrArg (piw σ) (Fin.ext ?_)
  show 0 + 1 * (i 0).val = _
  omega

/-- What a device owes at the start. -/
def O₀ (c : Dev nD) : CellTallies nD τ sig Unit := dues σ c steps

/-- What a device's body starts from. -/
def start (c : Dev nD) : sProp 𝕄 :=
  iprop((∃ K, records σ m K ∗ mine σ c) ∗ credits c ∗ xPts m c ∗ oPts c (m ((c : Thread nD τ).loc main_v1)))

/-- What it ends with. -/
def fin (c : Dev nD) : sProp 𝕄 := iprop(xPts m c ∗ oPts c (G σ m c) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m c
  Φ t := match t with
    | ⟨0, _⟩ => start σ m c
    | ⟨_ + 1, _⟩ => fin σ m c
  q _ := fullShare
  owed t := match t with
    | ⟨0, _⟩ => O₀ σ c
    | ⟨_ + 1, _⟩ => 0

abbrev t₀ : Fin cfg0.N := t0_0

omit [FloatOps F] in
theorem owns_whole_eq (c : Dev nD) (b : Ref sig .tc) (B : b.ty.Contents (Elt F)) :
    (owns (Ix := Unit) (Name := ℕ) (U := UU) (Lvl := ℕ) (c : Thread nD τ) (Memref.whole b) fullShare B : sProp 𝕄)
      = iprop(∃ f : Buf (Elt F) (((c : Dev nD) : Thread nD τ).loc b), ⌜f = B⌝ ∗ (((c : Thread nD τ).loc b) ↦{fullShare} f)) := by
  unfold owns; simp only [Memref.view_whole, View.read_whole, View.set_whole]

abbrev stg (c : Dev nD) (b : Ref sig .tc) (B : b.ty.Contents (Elt F)) : sProp 𝕄 :=
  iprop(∃ f : Buf (Elt F) (((c : Dev nD) : Thread nD τ).loc b), ⌜f = B⌝ ∗ (((c : Thread nD τ).loc b) ↦{fullShare} f))

set_option maxRecDepth 4000 in
def pointPre (c : Dev nD) : sProp 𝕄 :=
  iprop(start σ m c ∗ (dats σ m ρ 0 c).owesAt () t₀.castSucc ∗ (∃ d, stg c cc0_stg0_0 ((dats σ m ρ 0 c).before (0 : Fin 1) t₀ d)))

set_option maxRecDepth 4000 in
def pointPost (c : Dev nD) : sProp 𝕄 :=
  iprop(fin σ m c ∗ (dats σ m ρ 0 c).owesAt () t₀.succ ∗ stg c cc0_stg0_0 (tstg m c))

variable {σ m}

set_option maxRecDepth 4000 in
theorem point (hT : Tabled σ m) (c : Dev nD) :
    pointPre σ m ρ c ⊢ wpB c (loads (Memref.whole cc0_stg0_0) fun _ w => runL w steps (.ret ⟨⟩)) (fun _ => pointPost σ m ρ c) := by
  unfold pointPre start
  iintro ⟨⟨⟨%K, #HR, Hm⟩, Hc, Hx, Ho⟩, HO, ⟨%d0, %g0, %hg0, Ht⟩⟩
  have ht : g0 = tstg m c := by rw [hg0]; unfold Dat.before; rw [if_pos (fetch0_0 t₀)]; rfl
  subst ht
  unfold Dat.owesAt Pipeline.owesWithin
  icases HO with ⟨%W, %hW, HO⟩
  rw [show (dats σ m ρ 0 c).owed t₀.castSucc = dues σ c steps from rfl]
  iapply (run_loads c (tstg_spells hT c) (fun _ w => runL w steps (.ret ⟨⟩)) (fun _ => pointPost σ m ρ c)) $$ [Ht]
  · unfold tabP; iexact Ht
  iintro %w %hw Ht
  iapply (run_body m K hw (m ((c : Thread nD τ).loc main_v1)) (.ret ⟨⟩) (fun _ => pointPost σ m ρ c)) $$ [Hm Hc Hx Ho HO]
  · isplitr; · iexact HR
    isplitl [Hm]; · iexact Hm
    isplitl [Hc]; · iexact Hc
    isplitl [Hx]; · iexact Hx
    isplitl [Ho]; · iexact Ho
    unfold owesX; iexists W; iexact HO
  iintro ⟨Hx, Ho, Hz, HO⟩
  unfold owesX
  icases HO with ⟨%W', HO⟩
  unfold wpB; rw [wp_ret]; imodintro
  unfold pointPost fin Dat.owesAt Pipeline.owesWithin
  rw [show (dats σ m ρ 0 c).owed t₀.succ = 0 from rfl]
  isplitl [Hx Ho Hz]
  · isplitl [Hx]; · iexact Hx
    isplitl [Ho] <;> iassumption
  isplitl [HO]
  · iexists W'
    isplitr; · ipureintro; exact fun _ _ => Or.inl trivial
    iexact HO
  iexists _; isplitr; · (ipureintro; rfl)
  unfold tabP; iexact Ht

set_option maxRecDepth 16000 in
/-- The library's body obligation. -/
theorem body_obligation (hT : Tabled σ m) (c : Dev nD) : BodyObligation (dats (F := F) σ m ρ 0 c) (defs₀ (F := F)) 𝒱₀ () Set.univ := fun t => by
  rw [fin_N0 t]
  rw [show (bigSep Finset.univ : (Fin cfg0.W → sProp 𝕄) → sProp 𝕄) = bigSep (Finset.univ : Finset (Fin 1)) from rfl, bigSep_W0, bigSep_W0]
  simp only [owns_whole_eq]
  show pointPre σ m ρ c ⊢ wpB c (bodyAt0 (F := F) t₀) (fun _ => pointPost σ m ρ c)
  rw [body_eq]
  exact point ρ hT c

end Cert.Permute

end
-- ==== Proof.Deal.lean ====
/-
# The launch

What the launch makes and deals: the invariants of every semaphore, the tokens of the duties dealt to the devices that
pay them, the credits of what comes to a device, the semaphores at zero before and after.
-/
module

public import proofs.«01_k».proof.Proof.Point

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## A device's semaphores -/

omit [FloatOps F] in
theorem both (Φ : Bool → sProp 𝕄) : bigSep Finset.univ Φ = iprop(Φ false ∗ Φ true) :=
  bigSep_univ_eq_bigSepL [false, true] (by decide) (by decide) Φ

omit [FloatOps F] in
/-- All a device's semaphores, by kind. -/
theorem cels (Φ : Cel → sProp 𝕄) : bigSep Finset.univ Φ = iprop((Φ (.inl false) ∗ Φ (.inl true))
    ∗ (bigSep Finset.univ fun t => Φ (.inr (.inl t))) ∗ bigSep Finset.univ fun t => Φ (.inr (.inr t))) := by
  rw [bigSep_univ_sum, bigSep_univ_sum, both]
  rfl

/-- The kernel's own semaphores: the second barrier's and the copies'. -/
abbrev osem : Unit ⊕ (Tr ⊕ Tr) → SemLoc sig
  | .inl _ => csem (.inl true) | .inr k => csem (.inr k)

theorem ownSemFacts : Pipeline.OwnSemFacts cfg0.spec osem where
  isScoped k := by
    have hS : ∀ t ∈ Tr.list, (SemLoc.dma t.sS : SemLoc sig).isScoped .tc = true := by decide +kernel
    have hR : ∀ t ∈ Tr.list, (SemLoc.dma t.rS : SemLoc sig).isScoped .tc = true := by decide +kernel
    have hb : (SemLoc.reg bar2 : SemLoc sig).isScoped .tc = true := by decide +kernel
    rcases k with _ | t | t
    · exact hb
    · exact hS t (Tr.mem_list t)
    · exact hR t (Tr.mem_list t)
  inj := by
    rintro (_ | k) (_ | k') h
    · rfl
    · cases csem_injective (a₁ := .inl true) (a₂ := .inr k') h
    · cases csem_injective (a₁ := .inr k) (a₂ := .inl true) h
    · rw [Sum.inr_injective (csem_injective h)]
  disj k w s h := by
    have hS : ∀ t ∈ Tr.list, ∀ w s, t.sS ≠ (cfg0.spec w).sem s := by decide +kernel
    have hR : ∀ t ∈ Tr.list, ∀ w s, t.rS ≠ (cfg0.spec w).sem s := by decide +kernel
    rcases k with _ | t | t
    · cases h
    · exact hS t (Tr.mem_list t) w s (SemLoc.dma.inj h)
    · exact hR t (Tr.mem_list t) w s (SemLoc.dma.inj h)

omit [FloatOps F] in
theorem ownSems0_eq (c : Dev nD) : (Pipeline.ownSems0 (Ix := Unit) (Name := ℕ) (U := UU) (Lvl := ℕ) (Val := Elt F) (τ := τ) osem c : sProp 𝕄)
    = iprop(semVal (bCell c true) 0 ∗ (bigSep Finset.univ fun t => semVal (sCell c t) 0) ∗ bigSep Finset.univ fun t => semVal (rCell c t) 0) := by
  unfold Pipeline.ownSems0
  rw [bigSep_univ_sum, bigSep_univ_sum, bigSep_univ_eq_bigSepL [()] (by decide) (by decide)]
  rfl
omit [FloatOps F] in
theorem unscopedSems0_eq (c : Dev nD) : (unscopedSems0 c : sProp 𝕄) = semVal (bCell c false) 0 := by
  unfold unscopedSems0; rw [bigSep_eq_bigSepL_of_eq [SemLoc.reg bar1] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cel => semVal (kcell (c, k)) 0 : sProp 𝕄) := by
  rw [ownSems0_eq, unscopedSems0_eq, cels]
  iintro ⟨⟨H2, HS, HR⟩, H1⟩
  isplitl [H1 H2]
  · isplitl [H1] <;> iassumption
  isplitl [HS] <;> iassumption

/-! ## Invariants and tokens -/

def ringCells : Finset (GSem nD τ sig) := Finset.univ.map ⟨kcell, kcell_injective⟩

/-- A device's own semaphores' duties: four at each barrier, one at every other. -/
abbrev Job : Type := (Bool × Fin 4) ⊕ (Tr ⊕ Tr)
abbrev tokOf (cj : Dev nD × Job) : GSem nD τ sig × ℕ × Fin 4 := match cj.2 with
  | .inl (b, r) => (bCell cj.1 b, 0, r)
  | .inr k => (kcell (cj.1, .inr k), 0, 0)
theorem tokOf_injective : Function.Injective tokOf := by
  rintro ⟨c, ⟨b, r⟩ | k⟩ ⟨c', ⟨b', r'⟩ | k'⟩ h
  · have h1 := kcell_injective (congrArg Prod.fst h)
    have h2 : r = r' := congrArg (fun x : GSem nD τ sig × ℕ × Fin 4 => x.2.2) h
    have h3 : c = c' := congrArg Prod.fst h1
    rw [h3, Sum.inl_injective (Prod.mk.inj h1).2, h2]
  · cases (Prod.mk.inj (kcell_injective (congrArg Prod.fst h))).2
  · cases (Prod.mk.inj (kcell_injective (congrArg Prod.fst h))).2
  · have h1 := kcell_injective (congrArg Prod.fst h)
    have h3 : c = c' := congrArg Prod.fst h1
    rw [h3, Sum.inr_injective (Prod.mk.inj h1).2]
def ringToks : Finset (GSem nD τ sig × ℕ × Fin 4) := Finset.univ.map ⟨tokOf, tokOf_injective⟩

def u₀ : UU := (initOf (Pipeline.cells cfgs cellOf_inj) (Pipeline.launchToks cfgs cellOf_inj), initOf ringCells ringToks)

/-- The duty tokens of a device's own semaphores. -/
def toks (c : Dev nD) : sProp 𝕄 :=
  iprop(((bigSep Finset.univ fun r => dutyTok ER (bCell c false) 0 r) ∗ (bigSep Finset.univ fun r => dutyTok ER (bCell c true) 0 r))
    ∗ (bigSep Finset.univ fun t => dutyTok ER (sCell c t) 0 0) ∗ bigSep Finset.univ fun t => dutyTok ER (rCell c t) 0 0)

/-- The duty tokens of the duties a device pays. -/
def payToks (c : Dev nD) : sProp 𝕄 :=
  iprop((bigSep Finset.univ fun r => dutyTok ER (bCell (out4 σ c r) false) 0 r) ∗ (bigSep Finset.univ fun r => dutyTok ER (bCell (out4 σ c r) true) 0 r)
    ∗ (bigSep Finset.univ fun t => dutyTok ER (sCell c t) 0 0) ∗ bigSep Finset.univ fun t => dutyTok ER (rCell (t.tgt σ c) t) 0 0)

/-- What a device is dealt first, -/
def deal (c : Dev nD) : sProp 𝕄 :=
  iprop((bigSep Finset.univ fun k : Cel => roundState ER (Rd σ m) (kcell (c, k)) 0)
    ∗ (bigSep Finset.univ fun k : Cel => iprop(atPos ER (kcell (c, k)) 0 ∅ 0 ∗ reached ER (kcell (c, k)) 0)) ∗ toks c)

/-- the records without the levels, -/
def facts (K : Dev nD × Cel → ℕ) : sProp 𝕄 :=
  iprop((bigSep Finset.univ fun ck : Dev nD × Cel => cellInv ER (Rd σ m) (K ck) (kcell ck))
    ∗ bigSep Finset.univ fun ck : Dev nD × Cel => reached ER (kcell ck) 0)

omit [FloatOps F] in
instance facts_persistent (K : Dev nD × Cel → ℕ) : BI.Persistent (facts (F := F) σ m K) := by unfold facts; infer_instance

/-- and what it holds once the invariants are made and the tokens dealt. -/
def dealt (c : Dev nD) : sProp 𝕄 := iprop(∃ K, facts σ m K ∗ mine σ c)

omit [FloatOps F] in
theorem fund_ring : BI.own (ER (initOf ringCells ringToks)) ⊢ (|==> bigSep Finset.univ (deal σ m) : sProp 𝕄) := by
  have hX (Φ : GSem nD τ sig → sProp 𝕄) : bigSep ringCells Φ = bigSep Finset.univ fun c : Dev nD => bigSep Finset.univ fun k : Cel => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum, bigSep_univ_prod, both]
    rfl
  iintro HX
  imod (Rounds.fund ER (Rd σ m) ringCells ringToks) $$ HX with ⟨Hst, Hr, Hat, Htok⟩
  imodintro
  ihave Hst' := (Entails.of_eq (hX fun g => roundState ER (Rd σ m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ deal σ m c)
      ⊢ |={Set.univ}=> iprop((bigSep Finset.univ fun k => iprop(∃ κ : ℕ, cellInv ER (Rd σ m) κ (kcell (c, k))))
          ∗ (bigSep Finset.univ fun k => iprop(atPos ER (kcell (c, k)) 0 ∅ 0 ∗ reached ER (kcell (c, k)) 0)) ∗ toks c) := by
  unfold deal
  iintro ⟨Hos, Hus, Hst, Hat, Htok⟩
  ihave Hv := (sems0_eq (F := F) c) $$ [Hos Hus]
  · isplitl [Hos] <;> iassumption
  imod (show iprop((bigSep Finset.univ fun k : Cel => semVal (kcell (c, k)) 0) ∗ bigSep Finset.univ fun k : Cel => roundState ER (Rd σ m) (kcell (c, k)) 0)
      ⊢ (|={Set.univ}=> bigSep Finset.univ fun k => iprop(∃ κ : ℕ, cellInv ER (Rd σ m) κ (kcell (c, k))) : sProp 𝕄) from by
        rw [← bigSep_sep']
        exact (bigSep_mono fun k _ => (Rounds.body_intro ER (Rd σ m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Dealing the tokens one way around. -/
theorem around {I : Type} [Fintype I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm (fun c i => Φ i c), bigSep_univ_comm (fun c i => Φ i (e i c))]
  exact bigSep_congr fun i _ => bigSep_univ_equiv (e i) (Φ i)

omit [FloatOps F] in
theorem toks_around : (bigSep Finset.univ fun c : Dev nD => (toks c : sProp 𝕄)) ⊢ bigSep Finset.univ fun c : Dev nD => payToks σ c := by
  unfold toks payToks
  simp only [bigSep_sep']
  rw [around (way σ) (fun r c => (dutyTok ER (bCell c false) 0 r : sProp 𝕄)), around (way σ) (fun r c => (dutyTok ER (bCell c true) 0 r : sProp 𝕄)),
    around (fun t : Tr => (way σ t.role).symm) (fun t c => (dutyTok ER (rCell c t) 0 0 : sProp 𝕄))]
  iintro ⟨⟨H1, H2⟩, HS, HR⟩
  isplitl [H1]; · iexact H1
  isplitl [H2]; · iexact H2
  isplitl [HS]; · iexact HS
  iexact HR

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem dealt_intro (K : Dev nD × Cel → ℕ) (c : Dev nD) :
    iprop(facts σ m K ∗ ((bigSep Finset.univ fun k : Cel => (atPos ER (kcell (c, k)) 0 ∅ 0 : sProp 𝕄)) ∗ payToks σ c)) ⊢ dealt σ m c := by
  rw [cels]
  unfold payToks dealt mine
  iintro ⟨HF, ⟨⟨HA1, HA2⟩, HAS, HAR⟩, HT1, HT2, HTS, HTR⟩
  iexists K
  isplitl [HF]; · iexact HF
  isplitl [HT1]; · iexact HT1
  isplitl [HT2]; · iexact HT2
  isplitl [HTS]; · iexact HTS
  isplitl [HTR]; · iexact HTR
  isplitl [HA1]; · iexact HA1
  isplitl [HA2]; · iexact HA2
  isplitl [HAS] <;> iassumption

omit [FloatOps F] in
theorem regroup :
    (bigSep Finset.univ fun c : Dev nD => iprop((bigSep Finset.univ fun k => iprop(∃ κ : ℕ, cellInv ER (Rd σ m) κ (kcell (c, k))))
          ∗ (bigSep Finset.univ fun k => iprop(atPos ER (kcell (c, k)) 0 ∅ 0 ∗ reached ER (kcell (c, k)) 0)) ∗ toks c) : sProp 𝕄)
      ⊢ bigSep Finset.univ (dealt σ m) := by
  rw [bigSep_sep', bigSep_sep', ← bigSep_univ_prod (fun ck : Dev nD × Cel => iprop(∃ κ : ℕ, cellInv ER (Rd σ m) κ (kcell ck))),
    bigSep_congr (s := Finset.univ) (fun (c : Dev nD) _ => bigSep_sep' Finset.univ (fun k : Cel => (atPos ER (kcell (c, k)) 0 ∅ 0 : sProp 𝕄)) (fun k => reached ER (kcell (c, k)) 0)),
    bigSep_sep', ← bigSep_univ_prod (fun ck : Dev nD × Cel => (reached ER (kcell ck) 0 : sProp 𝕄))]
  iintro ⟨HI, ⟨Hat, #HR⟩, Htok⟩
  ihave HK := (BI.bigSep_exists_pi Finset.univ (fun (ck : Dev nD × Cel) (κ : ℕ) => (cellInv ER (Rd σ m) κ (kcell ck) : sProp 𝕄))) $$ HI
  icases HK with ⟨%K, #HI⟩
  ihave Htk := (toks_around (F := F) σ) $$ Htok
  iapply (with_persistent (R := facts σ m K) fun c _ => dealt_intro σ m K c)
  isplitr
  · unfold facts; isplitl; · iexact HI
    iexact HR
  · rw [bigSep_sep']
    isplitl [Hat]; · iexact Hat
    iexact Htk

omit [FloatOps F] in
/-- The one step for all devices together: the invariants made, the tokens dealt. -/
theorem glob : (bigSep Finset.univ fun c => iprop(Pipeline.ownSems0 (Ix := Unit) (Name := ℕ) (U := UU) (Lvl := ℕ) (Val := Elt F) (τ := τ) osem c ∗ unscopedSems0 c ∗ deal σ m c) : sProp 𝕄)
    ⊢ |={Set.univ}=> bigSep Finset.univ (dealt σ m) :=
  ((bigSep_mono fun c _ => core_alloc σ m c).trans (bigSep_fupd _ _)).trans (BI.fupd_mono (regroup σ m))

/-! ## Credits -/

/-- The steps that pay nothing. -/
def quiet : Step → Bool
  | .snd _ => false | .sig1 _ => false | .sig2 _ => false | _ => true

/-- What a device owes, by kind. -/
theorem owed_eq (d : Dev nD) : O₀ σ d = (∑ r : Fin 4, tallyAt (bCell (out4 σ d r) false) () 1) + ((∑ r : Fin 4, tallyAt (bCell (out4 σ d r) true) () 1)
    + ∑ t : Tr, tallyAt (rCell (t.tgt σ d) t) () N) := by
  have hp : steps.Perm ((List.finRange 4).map .sig1 ++ ((List.finRange 4).map .sig2 ++ (Tr.list.map .snd ++ steps.filter quiet))) :=
    List.isPerm_iff.mp (by decide +kernel)
  have hq : ((steps.filter quiet).map (dueOf σ d)).sum = 0 := by
    refine List.sum_eq_zero fun x hx => ?_
    obtain ⟨s, hs, rfl⟩ := List.mem_map.mp hx
    have := (List.mem_filter.mp hs).2
    cases s <;> first | rfl | cases this
  have hn : Tr.list.Nodup := by decide +kernel
  have ht : (∑ t : Tr, (tallyAt (rCell (t.tgt σ d) t) () N : CellTallies nD τ sig Unit)) = (Tr.list.map fun t => tallyAt (rCell (t.tgt σ d) t) () N).sum :=
    List.sum_toFinset _ hn
  unfold O₀ dues
  rw [(hp.map _).sum_eq, List.map_append, List.map_append, List.map_append, List.sum_append, List.sum_append, List.sum_append, hq, add_zero,
    List.map_map, List.map_map, List.map_map, ht, Fin.sum_univ_def, Fin.sum_univ_def]
  rfl

omit [FloatOps F] in
theorem cred_four (c : Dev nD) (b : Bool) : (bigSep Finset.univ fun r : Fin 4 => cred (tallyAt (bCell c b) () 1)) ⊢ (cred (tallyAt (bCell c b) () 4) : sProp 𝕄) := by
  rw [← Pipeline.cred_finsetSum, Fin.sum_univ_four, tallyAt_add, tallyAt_add, tallyAt_add]

omit [FloatOps F] in
theorem creds (c : Dev nD) : (Pipeline.launchCred (O₀ σ) c : sProp 𝕄) ⊢ credits c := by
  rw [funext (owed_eq σ), Pipeline.launchCred_add, Pipeline.launchCred_add, Pipeline.launchCred_sum, Pipeline.launchCred_sum, Pipeline.launchCred_sum]
  unfold credits
  refine sep_mono ((bigSep_mono fun r _ => ?_).trans (cred_four c false)) (sep_mono ((bigSep_mono fun r _ => ?_).trans (cred_four c true)) (bigSep_mono fun t _ => ?_))
  · exact Pipeline.launchCred_tallyAt (csem (.inl false)) (fun d => out4 σ d r) (fun d => in4 σ d r) (fun d => out_in σ d r) (fun d => in_out σ d r) () 1 c
  · exact Pipeline.launchCred_tallyAt (csem (.inl true)) (fun d => out4 σ d r) (fun d => in4 σ d r) (fun d => out_in σ d r) (fun d => in_out σ d r) () 1 c
  · exact Pipeline.launchCred_tallyAt (csem (.inr (.inr t))) (fun d => t.tgt σ d) (fun d => t.src σ d) (fun d => Tr.tgt_src σ d t) (fun d => Tr.src_tgt σ d t) () N c

end Cert.Permute

end
-- ==== Proof.Run.lean ====
/-
# The run

The whole program, at any float values and any permutation the table spells: it terminates, both arguments end
unchanged, every semaphore ends at zero, and the result of every device holds the pieces it received.
-/
module

public import proofs.«01_k».proof.Proof.Deal
public import Idealize.ShloMosaic.Lib.Pipeline.CollectiveSegs

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## The side conditions -/

theorem share_eq (c : Dev nD) (w : Fin cfg0.W) : (dats σ m ρ 0 c).share w = fullShare := by unfold Dat.share; split <;> rfl

/-- The table's staging semaphore lies below everything a device owes. -/
theorem lv_stage (c : Dev nD) : ∀ w s, lv ((c : Thread nD τ), .dma ((cfg0.spec w).sem s)) () = 0 := by
  have h : ∀ w s, decS ((cfg0.spec w).sem s) = none ∧ decR ((cfg0.spec w).sem s) = none := by decide +kernel
  intro w s
  simp only [lv, (h w s).1, (h w s).2]

theorem waits (c : Dev nD) : (levAts L lv : sProp 𝕄) ⊢ Pipeline.cellsWaits cfgs (dats σ m ρ) () 0 c :=
  Pipeline.cellsWaits_intro cfgs (dats σ m ρ) () 0 c fun w s t => mayWait (b := 0) (le_of_eq (lv_stage c w s)) (by
    rcases t with ⟨_ | _, ht⟩
    · exact above_dues σ (show steps.all (stepAbove 0) = true by decide +kernel)
    · exact above_zero 0)

omit [FloatOps F] in
theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ dealt σ m c)
      ⊢ |={Set.univ}=> iprop(start σ m c ∗ emp) := by
  rw [Pipeline.unscopedRestP_none, unscopedRest0_eq]
  unfold dealt facts start xPts oPts records
  iintro ⟨⟨Hx, Ho⟩, Hlev, Hcr, -, ⟨%K, ⟨HI, HR⟩, Hm⟩⟩
  ihave Hc := (creds (F := F) σ c) $$ Hcr
  imodintro
  isplitl
  · isplitl [HI HR Hm Hlev]
    · iexists K
      isplitl [HI HR Hlev]
      · isplitl [HI]; · iexact HI
        isplitl [HR] <;> iassumption
      iexact Hm
    isplitl [Hc]; · iexact Hc
    isplitl [Hx]; · iexact Hx
    iexact Ho
  · iempintro

theorem phi0_intro (c : Dev nD) :
    iprop(start σ m c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = start σ m c from rfl]
  iintro ⟨Hs, -, -⟩
  iexact Hs

/-- What a device still holds when the kernel returns. -/
def left (c : Dev nD) : sProp 𝕄 := iprop(unscopedSems0 c ∗ xPts m c ∗ oPts c (G σ m c))

theorem phi1_exit (c : Dev nD) :
    (dats σ m ρ 0 c).Φ (Fin.last cfg0.N) ⊢ iprop(left σ m c ∗ Pipeline.ownSems0 osem c ∗ Pipeline.scopedRest cfg0.spec c) := by
  rw [show (dats σ m ρ 0 c).Φ (Fin.last cfg0.N) = fin σ m c from rfl, scopedRest0_eq, ownSems0_eq]
  unfold fin left zeros
  rw [unscopedSems0_eq]
  iintro ⟨Hx, Ho, H1, H2, HS, HR⟩
  isplitl [Hx Ho H1]
  · isplitl [H1]; · iexact H1
    isplitl [Hx] <;> iassumption
  isplitl [H2 HS HR]
  · isplitl [H2]; · iexact H2
    isplitl [HS] <;> iassumption
  iempintro

/-! ## Reading the final memory -/

/-- What is read of a final state at one device. -/
def Read (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = G σ m c

omit [FloatOps F] in
theorem agree (ℓ : Loc nD τ sig) (f : Buf (Elt F) ℓ) (s : Phys nD τ sig (Elt F)) :
    iprop(SI s ∗ ℓ ↦{fullShare} f) ⊢ (⌜s.mem.mem ℓ = f⌝ : sProp 𝕄) :=
  SI_pointsTo_agree.trans (Laws.pure_mono fun h => funext fun i => h i (Finset.mem_univ i))

theorem read_left (c : Dev nD) (s : Phys nD τ sig (Elt F)) :
    iprop(left σ m c ∗ emp ∗ SI s) ⊢ (|={Set.univ}=> iprop(⌜Read σ m c s.mem⌝ ∗ SI s) : sProp 𝕄) := by
  unfold left xPts oPts
  iintro ⟨⟨Hu, Hx, Ho⟩, -, HSI⟩
  ihave %hx := (agree _ _ s) $$ [HSI Hx]
  · isplitl [HSI] <;> iassumption
  ihave %ho := (agree _ _ s) $$ [HSI Ho]
  · isplitl [HSI] <;> iassumption
  imod (Pipeline.unscopedSems0_read (X := unscopedSems0 c) (c := c) fupd_intro s) $$ [Hu HSI] with ⟨%hu, HSI⟩
  · isplitl [Hu] <;> iassumption
  imodintro
  isplitr
  · ipureintro; exact ⟨hu, hx, ho⟩
  iexact HSI

/-! ## The run -/

/-- What every run ends with. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = G σ m c) ∧ r.2.sem = fun _ => 0

variable {σ m}

set_option maxRecDepth 40000 in
/-- Every fair run of the program ends, and ends so. -/
theorem run_main (hT : Tabled σ m) : θ_run defs (onTc (τ := τ) (main (F := F))) (s₀ m ρ) (Ends σ m) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ 𝒱₀ m ρ main
    (hmain := fun _ => rfl)
    (hbody := body_obligation ρ hT) (hne := fun w => by fin_cases w <;> exact Nat.succ_pos _) (harr := arr_whole0) (hstage := stage_whole0) (hshare := share_eq σ m ρ)
    (hdistinct := winFacts0.arr_inj)
    (O₀ := O₀ σ) (howed₀ := fun _ => rfl) (howedN := fun _ => rfl)
    (L := L) (lv := lv) (hL := L_of_ne) (hwaits := waits σ m ρ)
    (G := deal σ m) (G' := dealt σ m) (u₀ := u₀)
    (hu₀ := by
      unfold u₀
      iintro Hu
      ihave H := (ownU_pair _ _) $$ Hu
      icases H with ⟨HP, HX⟩
      imod (fund_ring σ m) $$ HX with HG
      imodintro
      isplitl [HP] <;> iassumption)
    (hglob := glob σ m)
    (hA := fun _ _ => rfl) (hpf := fun _ k => k.elim0)
    (X := start σ m) (Y := left σ m) (Z := fun _ => iprop(emp))
    (hX := start_intro σ m ρ) (hin := phi0_intro σ m ρ) (hout := phi1_exit σ m ρ)
    (QY := Read σ m) (hY := read_left σ m)
    (hQ := fun _ h hs => ⟨fun c => ⟨(h c).2.2.2.1, ((h c).1 (0 : Fin 1)).trans ((dats (F := F) σ m ρ 0 c).arrAt_in (0 : Fin 1) rfl _), (h c).2.2.2.2⟩,
      sem_eq_zero hs fun c => (h c).2.2.1⟩)

end Cert.Permute

end
-- ==== Proof.Value.lean ====
/-
# What the result is

The reference permutes the rows of the whole array by the inverse of the permutation that its table spells; the
kernel's result on a device is that device's block of the permuted array.
-/
module

public import proofs.«01_k».proof.Proof.Run
public import proofs.«01_k».proof.Proof.Gen.ReferenceIdeal.Run
public import Idealize.ShloMosaic.Lib.Layout
public import Mathlib.Data.Fintype.Perm

@[expose] public section

noncomputable section

namespace Cert.Permute

open Idealize.ShloMosaic
open Idealize.ShloMosaic.TcCoe

variable {α : Type}

/-! ## The reference -/

/-- The whole array. -/
abbrev Whole : Shape := ⟨3, ![4, 4096, 2048]⟩
/-- A device's block. -/
abbrev Block : Shape := ⟨3, ![1, 4096, 2048]⟩

/-- The whole array's index at row `k` and an index's two other places. -/
def atRow (k : Fin 4) (j : Whole.Idx) : Whole.Idx
  | 0 => k | 1 => j 1 | 2 => j 2

/-- The array whose row `k` is row `σ⁻¹ k` of `x`. -/
def permuted (σ : Equiv.Perm (Fin 4)) (x : Whole.Idx → α) : Whole.Idx → α := fun j => x (atRow (σ.symm (j 0)) j)

/-- The rows that the reference gathers, of a table: its sorting permutation, counted from the end where negative. -/
def rows (t : IVec Cert.ReferenceIdeal.S4 32) : IVec Cert.ReferenceIdeal.S4 32 :=
  let s := (Host.sort2 Cert.ReferenceIdeal.S4 0 Cert.ReferenceIdeal.comparator_i32_i32_d0 t (iotaInDim Cert.ReferenceIdeal.S4 32 0)).2
  select (cmpi .slt s (broadcastInDim Cert.ReferenceIdeal.S4 ![] Cert.ReferenceIdeal.Gen.facts.bcast_S_S4 (constantI Cert.ReferenceIdeal.S_ 32 0#32)))
    (addi s (broadcastInDim Cert.ReferenceIdeal.S4 ![] Cert.ReferenceIdeal.Gen.facts.bcast_S_S4 (constantI Cert.ReferenceIdeal.S_ 32 4#32))) s

/-- The index of the table at place `k`. -/
def place (k : Fin 4) : Cert.ReferenceIdeal.S4.Idx
  | 0 => k

theorem place_eq (i : Cert.ReferenceIdeal.S4.Idx) : place (i 0) = i := funext fun a => by match a with | ⟨0, _⟩ => rfl

set_option maxRecDepth 8000 in
/-- Of a table that spells `σ` they are the values of `σ⁻¹`. -/
theorem rows_eq (σ : Equiv.Perm (Fin 4)) : rows (fun i => piw σ (i 0)) = fun i => piw σ.symm (i 0) := by
  have h : ∀ (σ : Equiv.Perm (Fin 4)) (k : Fin 4), rows (fun i => piw σ (i 0)) (place k) = piw σ.symm k := by decide +kernel
  funext i
  rw [← place_eq i]
  exact h σ (i 0)

theorem row_toInt (σ : Equiv.Perm (Fin 4)) (k : Fin 4) : min (piw σ k).toInt.toNat 3 = (σ k).val := by
  unfold piw
  generalize σ k = l
  revert l
  decide

/-- The reference's gather at rows that are the values of `σ⁻¹` permutes the rows. -/
theorem gather_eq (σ : Equiv.Perm (Fin 4)) (x : Whole.Idx → α) (r : IVec Cert.ReferenceIdeal.S4x1 32)
    (hr : ∀ i, r i = piw σ.symm (i 0)) :
    Host.gather Cert.ReferenceIdeal.gather_S4x4096x2048_S4x1_S4x4096x2048_12_0_n_n_0_1_140962048 x r = permuted σ x := by
  funext j
  refine congrArg x (funext fun a => Fin.ext ?_)
  match a with
  | ⟨0, _⟩ =>
    refine Eq.trans ?_ (row_toInt σ.symm (j 0))
    refine congrArg (fun w : BitVec 32 => min w.toInt.toNat 3) (hr _)
  | ⟨1, _⟩ => exact Nat.zero_add _
  | ⟨2, _⟩ => exact Nat.zero_add _

theorem column (r : IVec Cert.ReferenceIdeal.S4 32) (i : Cert.ReferenceIdeal.S4x1.Idx) :
    broadcastInDim Cert.ReferenceIdeal.S4x1 ![0] Cert.ReferenceIdeal.Gen.bcast_S4_S4x1_0 r i = r (place (i 0)) :=
  congrArg r (funext fun a => by match a with | ⟨0, _⟩ => rfl)

/-- The reference's value, of a table that spells `σ`. -/
theorem reference_eq (σ : Equiv.Perm (Fin 4)) (x : Whole.Idx → α) (t : IVec Cert.ReferenceIdeal.S4 32) (ht : t = fun i => piw σ (i 0)) :
    Host.gather Cert.ReferenceIdeal.gather_S4x4096x2048_S4x1_S4x4096x2048_12_0_n_n_0_1_140962048 x
      (broadcastInDim Cert.ReferenceIdeal.S4x1 ![0] Cert.ReferenceIdeal.Gen.bcast_S4_S4x1_0 (rows t)) = permuted σ x :=
  gather_eq σ x _ fun i => by rw [column, ht, rows_eq]; rfl

/-! ## The kernel -/

open Cert.KernelIdeal

variable {F : FTy → Type} {σ : Equiv.Perm (Fin 4)} {m : (ℓ : Loc nD τ sig) → Buf (Elt F) ℓ}

/-- A device's block of a whole array, cut along z. -/
abbrev blk (c : Dev nD) (x : Whole.Idx → α) : Block.Idx → α :=
  Layout.blockN Block Whole (Layout.meshBlock [2, 4, 4] ![[2], [], []] c) x

theorem blk_row (c : Dev nD) (i : Block.Idx) :
    ((Layout.meshBlock (n := nD) [2, 4, 4] (![[2], [], []] : Fin 3 → List ℕ) c) 0).val * 1 + (i 0).val = (zOf c).val := by
  have h : (i 0).val < 1 := (i 0).isLt
  have e : ((Layout.meshBlock (n := nD) [2, 4, 4] (![[2], [], []] : Fin 3 → List ℕ) c) 0).val = (zOf c).val := by revert c; decide
  omega

/-- A device's block of the permuted array is the block that any device at place `σ⁻¹` of its own has of the array. -/
theorem blk_permuted (x : Whole.Idx → α) (c d : Dev nD) (h : zOf d = σ.symm (zOf c)) : blk d x = blk c (permuted σ x) := by
  funext i
  refine congrArg x (funext fun a => Fin.ext ?_)
  match a with
  | ⟨0, _⟩ => exact (blk_row d i).trans ((congrArg Fin.val h).trans (congrArg (fun k => (σ.symm k).val) (Fin.ext (blk_row c i).symm)))
  | ⟨1, _⟩ => rfl
  | ⟨2, _⟩ => rfl

/-- Whatever the copy, what it brings started at a device at place `σ⁻¹` of the receiver's. -/
theorem zOf_orgn (c : Dev nD) (t : Tr) : zOf (t.orgn σ c) = σ.symm (zOf c) := by
  cases t <;> simp only [Tr.orgn, zmap, zOf_setZ, zOf_nbrX, zOf_nbrY]

/-- The kernel's result on a device is its block of the permuted array. -/
theorem G_eq (x : Whole.Idx → Elt F .f32) (hx : ∀ c : Dev nD, m ((c : Thread nD τ).loc main_arg0) = blk c x) (c : Dev nD) :
    G σ m c = blk c (permuted σ x) := by
  funext i
  unfold G X
  rw [hx, blk_permuted x c _ (zOf_orgn c _)]

end Cert.Permute
-- ==== Proof.Claims.lean ====
/-
# The claims, of any permutation

The frames and the value claim, each once, for a table that spells any permutation of the four places along z.
-/
module

public import proofs.«01_k».proof.Proof.Value
public import proofs.«01_k».proof.Defs

@[expose] public section

noncomputable section

namespace Cert.Permute

open Cert.KernelIdeal Cert.KernelIdeal.Gen
open Idealize.ShloMosaic
open Idealize.ShloMosaic.TcCoe
open Idealize.SL.Sem

variable {F : FTy → Type} [FloatOps F] {σ : Equiv.Perm (Fin 4)} {m : (ℓ : Loc nD τ sig) → Buf (Elt F) ℓ}

theorem eq_of_cmpi {a b : BitVec 32} (h : IntOp.cmpi .eq a b = 1#1) : a = b := by
  cases hb : a == b with
  | true => exact eq_of_beq hb
  | false =>
    rw [show IntOp.cmpi .eq a b = BitVec.ofBool (a == b) from rfl, hb] at h
    exact absurd h (by decide)

/-- A precondition that compares the table with one of four words, read: the table spells the permutation that the
    words spell. -/
theorem tabled_of (l : Fin 4 → BitVec 32) (hl : ∀ k, l (S4.rowMajor (place k)) = piw σ k)
    (h : ∀ c : Dev nD, cmpi .eq (m ((c : Thread nD τ).loc main_arg1)) (fun i => l (S4.rowMajor i)) = fun _ => 1#1) : Tabled σ m := by
  intro c i
  have e : m ((c : Thread nD τ).loc main_arg1) i = l (S4.rowMajor i) := eq_of_cmpi (congrFun (h c) i)
  rw [e, ← hl (i 0), place_eq i]

/-- The kernel's frame. -/
theorem frame (hT : Tabled σ m) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ h => ⟨fun c => ⟨(h.1 c).1, (h.1 c).2.1⟩, h.2⟩) (run_main ρ hT)

/-- The reference's frame. It has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: where the devices hold the blocks of one array, and the reference's table, the kernel leaves on
    every device its block of the array that the reference computes. -/
theorem values {m : (ℓ : Loc nD τ sig) → Buf (Elt Ideal) ℓ} (hT : Tabled σ m) (g : Dev nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (hm : ∀ c : Dev nD,
      m ((c : Thread nD τ).loc main_arg0) = blk c (m' (((0 : Dev Cert.ReferenceIdeal.nD).tc : Thread Cert.ReferenceIdeal.nD Cert.ReferenceIdeal.τ).loc Cert.ReferenceIdeal.main_arg0))
      ∧ m ((c : Thread nD τ).loc main_arg1) = m' (((0 : Dev Cert.ReferenceIdeal.nD).tc : Thread Cert.ReferenceIdeal.nD Cert.ReferenceIdeal.τ).loc Cert.ReferenceIdeal.main_arg1)) :
    ∃ v0 : Buf (Elt Ideal) (((0 : Dev Cert.ReferenceIdeal.nD).tc : Thread Cert.ReferenceIdeal.nD Cert.ReferenceIdeal.τ).loc Cert.ReferenceIdeal.main_v7),
      θ_run (defs (F := Ideal)) (onTc (τ := τ) (main (F := Ideal))) ⟨m, fun _ => 0, g⟩ (fun r => ∀ c : Dev nD,
          r.2.mem ((c : Thread nD τ).loc main_v1) = blk c v0
          ∧ r.2.mem ((c : Thread nD τ).loc main_arg0) = m ((c : Thread nD τ).loc main_arg0)
          ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht : m' (((0 : Dev Cert.ReferenceIdeal.nD).tc : Thread Cert.ReferenceIdeal.nD Cert.ReferenceIdeal.τ).loc Cert.ReferenceIdeal.main_arg1) = fun i => piw σ (i 0) :=
    (hm 0).2.symm.trans (funext fun i => hT 0 i)
  refine ⟨permuted σ (m' (((0 : Dev Cert.ReferenceIdeal.nD).tc : Thread Cert.ReferenceIdeal.nD Cert.ReferenceIdeal.τ).loc Cert.ReferenceIdeal.main_arg0)), ?_, ?_⟩
  · exact (θ_run defs _ _).mono
      (fun _ h c => ⟨(h.1 c).2.2.trans (G_eq _ (fun d => (hm d).1) c), (h.1 c).1, (h.1 c).2.1⟩) (run_main g hT)
  · refine (θ_run Cert.ReferenceIdeal.defs _ _).mono (fun _ h => ⟨(h 0).1.trans ?_, (h 0).2⟩)
      (Cert.ReferenceIdeal.Value.run (F := Ideal) m' g')
    exact reference_eq σ _ _ ht

end Cert.Permute
-- ==== Proof.lean ====
/-
# The proof of the claims

Three frames of the kernel, three of its ideal program, the reference's, and three value claims: one for each of the
three permutations that the preconditions name. Each is an instance of the one statement in Proof/Claims.lean that
holds of any permutation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Same
public import proofs.«01_k».proof.Proof.Claims

@[expose] public section

noncomputable section

namespace Cert.Proof

open Idealize.ShloMosaic Idealize.ShloMosaic.TcCoe Idealize.SL.Sem Cert.KernelIdeal Cert.Permute

/-- The permutation that a table rolled by `s` spells: place `k` goes to place `k - s`. -/
def roll (s : Fin 4) : Equiv.Perm (Fin 4) :=
  ⟨fun k => k - s, fun k => k + s, fun k => by revert k s; decide, fun k => by revert k s; decide⟩

variable {F : FTy → Type} [FloatOps F] {m : (ℓ : Loc nD τ sig) → Buf (Elt F) ℓ}

/-! The preconditions' programs state no side condition. -/
instance : Cert.Pre_pi_rolled_by_1_Kernel.Facts := ⟨⟩
instance : Cert.Pre_pi_rolled_by_2_Kernel.Facts := ⟨⟩
instance : Cert.Pre_pi_rolled_by_3_Kernel.Facts := ⟨⟩

/-- What each of the three preconditions says of the table. -/
theorem tabled_1 (h : ∀ c : Dev nD, Cert.Pre_pi_rolled_by_1_Kernel.fn (F := F) (m ((c : Thread nD τ).loc main_arg0)) (m ((c : Thread nD τ).loc main_arg1)) = fun _ => 1#1) :
    Tabled (roll 1) m := tabled_of Cert.Pre_pi_rolled_by_1_Kernel.lit0 (by decide) h
theorem tabled_2 (h : ∀ c : Dev nD, Cert.Pre_pi_rolled_by_2_Kernel.fn (F := F) (m ((c : Thread nD τ).loc main_arg0)) (m ((c : Thread nD τ).loc main_arg1)) = fun _ => 1#1) :
    Tabled (roll 2) m := tabled_of Cert.Pre_pi_rolled_by_2_Kernel.lit0 (by decide) h
theorem tabled_3 (h : ∀ c : Dev nD, Cert.Pre_pi_rolled_by_3_Kernel.fn (F := F) (m ((c : Thread nD τ).loc main_arg0)) (m ((c : Thread nD τ).loc main_arg1)) = fun _ => 1#1) :
    Tabled (roll 3) m := tabled_of Cert.Pre_pi_rolled_by_3_Kernel.lit0 (by decide) h

/-- The kernel's frames: its text is the ideal program's, so they are that program's run at the bit-exact floats. -/
theorem frame_kernel_1 : Cert.quiescent_Kernel := fun m ρ h => by
  rw [defs_same]
  exact frame (F := Bits) (tabled_1 h) ρ
theorem frame_kernel_2 : Cert.quiescent_Kernel_pre_pi_rolled_by_2_Kernel := fun m ρ h => by
  rw [defs_same]
  exact frame (F := Bits) (tabled_2 h) ρ
theorem frame_kernel_3 : Cert.quiescent_Kernel_pre_pi_rolled_by_3_Kernel := fun m ρ h => by
  rw [defs_same]
  exact frame (F := Bits) (tabled_3 h) ρ

theorem claim : Cert.Claim :=
  ⟨Cert.Kernel.Gen.facts, Cert.KernelIdeal.Gen.facts, Cert.ReferenceIdeal.Gen.facts, ⟨⟩, ⟨⟩, ⟨⟩, ⟨⟩, ⟨⟩, ⟨⟩,
    frame_kernel_1, frame_kernel_2, frame_kernel_3,
    fun _ ρ h => frame (tabled_1 h) ρ, fun _ ρ h => frame (tabled_2 h) ρ, fun _ ρ h => frame (tabled_3 h) ρ,
    frame_reference, fun m ρ _ => frame_reference m ρ trivial, fun m ρ _ => frame_reference m ρ trivial,
    fun m ρ _ => frame_reference m ρ trivial,
    trivial,
    fun _ g m' g' h hm => values (tabled_1 h) g m' g' hm,
    fun _ g m' g' h hm => values (tabled_2 h) g m' g' hm,
    fun _ g m' g' h hm => values (tabled_3 h) g m' g' hm⟩

end Cert.Proof

end
